-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_unbiased [hPre_finite_and_unbiased : Cert.Pre_finite_and_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_unbiased [hPre_finite_and_unbiased : Cert.Pre_finite_and_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_unbiased [hKernelIdeal : Cert.KernelIdeal.Facts] [hPre_finite_and_unbiased : Cert.Pre_finite_and_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_unbiased [hReferenceIdeal : Cert.ReferenceIdeal.Facts] [hPre_finite_and_unbiased : Cert.Pre_finite_and_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_n" .f32 0x36E38E39#32 ((1 / 147456 : ℝ) : EReal)

def algebraic_KernelIdeal_ReferenceIdeal_pre_finite_and_unbiased [hKernelIdeal : Cert.KernelIdeal.Facts] [hReferenceIdeal : Cert.ReferenceIdeal.Facts] [hPre_finite_and_unbiased : Cert.Pre_finite_and_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_unbiased : Cert.Pre_finite_and_unbiased.Facts),
    quiescent_Kernel (hKernel := hKernel)
    ∧ quiescent_KernelIdeal (hKernelIdeal := hKernelIdeal)
    ∧ quiescent_KernelIdeal_pre_finite_and_unbiased (hKernelIdeal := hKernelIdeal) (hPre_finite_and_unbiased := hPre_finite_and_unbiased)
    ∧ quiescent_ReferenceIdeal (hReferenceIdeal := hReferenceIdeal)
    ∧ quiescent_ReferenceIdeal_pre_finite_and_unbiased (hReferenceIdeal := hReferenceIdeal) (hPre_finite_and_unbiased := hPre_finite_and_unbiased)
    ∧ preserves_Kernel_KernelIdeal
    ∧ algebraic_KernelIdeal_ReferenceIdeal_pre_finite_and_unbiased (hKernelIdeal := hKernelIdeal) (hReferenceIdeal := hReferenceIdeal) (hPre_finite_and_unbiased := hPre_finite_and_unbiased)
-- ==== Pre_finite_and_unbiased.lean ====
abbrev S2x96x384x384 : Shape := ⟨4, ![2, 96, 384, 384]⟩
abbrev S2x35x384x384 : Shape := ⟨4, ![2, 35, 384, 384]⟩
abbrev S35x96 : Shape := ⟨2, ![35, 96]⟩
abbrev S_ : Shape := ⟨0, ![]⟩

class Facts : Prop where
  bcast_S_S2x96x384x384 : S_.BroadcastsInDim S2x96x384x384 (![] : Fin 0 → Fin S2x96x384x384.rank)
  reducesTo_S2x96x384x384_S_d0_1_2_3 : S2x96x384x384.ReducesTo [0, 1, 2, 3] S_
  h_S_ : 0 < S_.numel
  bcast_S_S35x96 : S_.BroadcastsInDim S35x96 (![] : Fin 0 → Fin S35x96.rank)
  reducesTo_S35x96_S_d0_1 : S35x96.ReducesTo [0, 1] S_

variable [Facts]

def fn {F : FTy → Type} [FloatOps F] (main_arg0 : FVec F S2x96x384x384 .f32) (main_arg1 : FVec F S2x35x384x384 .f32) (main_arg2 : FVec F S35x96 .f32) (main_arg3 : FVec F S35x96 .f32) : IVec S_ 1 :=
  let main_cst : FVec F S_ .f32 := constant S_ .f32 0x7F800000#32
  let main_v0 : FVec F S2x96x384x384 .f32 := broadcastInDim S2x96x384x384 ![] bcast_S_S2x96x384x384 main_cst
  let main_v1 : IVec S2x96x384x384 1 := cmpf .olt main_arg0 main_v0
  let main_cst_0 : FVec F S_ .f32 := constant S_ .f32 0xFF800000#32
  let main_v2 : FVec F S2x96x384x384 .f32 := broadcastInDim S2x96x384x384 ![] bcast_S_S2x96x384x384 main_cst_0
  let main_v3 : IVec S2x96x384x384 1 := cmpf .ogt main_arg0 main_v2
  let main_v4 : IVec S2x96x384x384 1 := andi main_v1 main_v3
  let main_c : IVec S_ 1 := constantI S_ 1 1#1
  let main_v5 : IVec S_ 1 := (fun x v => Host.reduce IntOp.andi x v reducesTo_S2x96x384x384_S_d0_1_2_3 h_S_) main_v4 main_c
  let main_cst_1 : FVec F S_ .f32 := constant S_ .f32 0x00000000#32
  let main_v6 : FVec F S35x96 .f32 := broadcastInDim S35x96 ![] bcast_S_S35x96 main_cst_1
  let main_v7 : IVec S35x96 1 := cmpf .oeq main_arg3 main_v6
  let main_c_2 : IVec S_ 1 := constantI S_ 1 1#1
  let main_v8 : IVec S_ 1 := (fun x v => Host.reduce IntOp.andi x v reducesTo_S35x96_S_d0_1 h_S_) main_v7 main_c_2
  let main_v9 : IVec S_ 1 := andi main_v5 main_v8
  main_v9
-- ==== Kernel.lean ====
abbrev S2x96x384x384 : Shape := ⟨4, ![2, 96, 384, 384]⟩
abbrev S2x35x384x384 : Shape := ⟨4, ![2, 35, 384, 384]⟩
abbrev S35x96 : Shape := ⟨2, ![35, 96]⟩
abbrev S96x35 : Shape := ⟨2, ![96, 35]⟩
abbrev S1x96x32x384 : Shape := ⟨4, ![1, 96, 32, 384]⟩
abbrev S1x35x32x384 : Shape := ⟨4, ![1, 35, 32, 384]⟩
abbrev S96x1x1 : Shape := ⟨3, ![96, 1, 1]⟩
abbrev S96x384x384 : Shape := ⟨3, ![96, 384, 384]⟩
abbrev S12x8x1536 : Shape := ⟨3, ![12, 8, 1536]⟩
abbrev S96x32x384 : Shape := ⟨3, ![96, 32, 384]⟩
abbrev S96 : Shape := ⟨1, ![96]⟩
abbrev S35x32x384 : Shape := ⟨3, ![35, 32, 384]⟩
abbrev S32x384 : Shape := ⟨2, ![32, 384]⟩
abbrev S1x32x384 : Shape := ⟨3, ![1, 32, 384]⟩
abbrev S35x1x1 : Shape := ⟨3, ![35, 1, 1]⟩
abbrev S1x12288 : Shape := ⟨2, ![1, 12288]⟩
abbrev S1x8x1536 : Shape := ⟨3, ![1, 8, 1536]⟩
abbrev S35x1 : Shape := ⟨2, ![35, 1]⟩
abbrev S35x12288 : Shape := ⟨2, ![35, 12288]⟩
abbrev S96x12288 : Shape := ⟨2, ![96, 12288]⟩

abbrev nBuf : Space → Nat
  | .hbm => 6
  | .vmem => 11
  | .smem => 0
  | _ => 0

abbrev bufTy : (tb : Table) → Fin (tcTables nBuf tb) → BufTy
  | .hbm, ⟨0, _⟩ => ⟨S2x96x384x384, .f32⟩
  | .hbm, ⟨1, _⟩ => ⟨S2x35x384x384, .f32⟩
  | .hbm, ⟨2, _⟩ => ⟨S35x96, .f32⟩
  | .hbm, ⟨3, _⟩ => ⟨S35x96, .f32⟩
  | .hbm, ⟨4, _⟩ => ⟨S96x35, .f32⟩
  | .hbm, ⟨5, _⟩ => ⟨S2x96x384x384, .f32⟩
  | .local _ .vmem, ⟨0, _⟩ => ⟨S1x96x32x384, .f32⟩
  | .local _ .vmem, ⟨1, _⟩ => ⟨S1x96x32x384, .f32⟩
  | .local _ .vmem, ⟨2, _⟩ => ⟨S1x35x32x384, .f32⟩
  | .local _ .vmem, ⟨3, _⟩ => ⟨S1x35x32x384, .f32⟩
  | .local _ .vmem, ⟨4, _⟩ => ⟨S96x35, .f32⟩
  | .local _ .vmem, ⟨5, _⟩ => ⟨S1x96x32x384, .f32⟩
  | .local _ .vmem, ⟨6, _⟩ => ⟨S1x96x32x384, .f32⟩
  | .local _ .vmem, ⟨7, _⟩ => ⟨S96x1x1, .f32⟩
  | .local _ .vmem, ⟨8, _⟩ => ⟨S96x1x1, .f32⟩
  | .local _ .vmem, ⟨9, _⟩ => ⟨S96x384x384, .bf16⟩
  | .local _ .vmem, ⟨10, _⟩ => ⟨S12x8x1536, .i32⟩
  | _, _ => ⟨S2x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

def k0_cond1 (i : grid0.Coords) : BitVec 1 :=
  let arg1 : BitVec 32 := BitVec.ofNat 32 (i 1).val
  let c12_i32 : BitVec 32 := 12#32
  let v0 : BitVec 1 := Scalar.cmpi .slt arg1 c12_i32
  let v1 : BitVec 32 := Scalar.extui v0
  let c0_i32 : BitVec 32 := 0#32
  let v2 : BitVec 1 := Scalar.cmpi .ne v1 c0_i32
  v2

def k0_off1 (i : grid0.Coords) : Fin 3 → Nat :=
  let c0_10 : Index := 0#32
  let arg1 : BitVec 32 := BitVec.ofNat 32 (i 1).val
  let c32_i32 : BitVec 32 := 32#32
  let v20 : BitVec 32 := Scalar.muli arg1 c32_i32
  let v21 : Index := Scalar.indexCast v20
  let c0_11 : Index := 0#32
  ![0, v21.toNat, 0]
def k0_off2 (i : grid0.Coords) : Fin 3 → Nat :=
  let arg1 : BitVec 32 := BitVec.ofNat 32 (i 1).val
  let v40 : Index := Scalar.indexCast arg1
  let c0_18 : Index := 0#32
  let c0_19 : Index := 0#32
  ![v40.toNat, 0, 0]
def k0_cond4 (i : grid0.Coords) : BitVec 1 :=
  let arg1 : BitVec 32 := BitVec.ofNat 32 (i 1).val
  let c12_i32_0 : BitVec 32 := 12#32
  let v3 : BitVec 1 := Scalar.cmpi .sge arg1 c12_i32_0
  let v4 : BitVec 32 := Scalar.extui v3
  let c0_i32_1 : BitVec 32 := 0#32
  let v5 : BitVec 1 := Scalar.cmpi .ne v4 c0_i32_1
  v5

def k0_off3 (i : grid0.Coords) : Fin 3 → Nat :=
  let arg1 : BitVec 32 := BitVec.ofNat 32 (i 1).val
  let c12_i32_2 : BitVec 32 := 12#32
  let v6 : BitVec 32 := Scalar.subi arg1 c12_i32_2
  let v7 : Index := Scalar.indexCast v6
  let c0 : Index := 0#32
  let c0_3 : Index := 0#32
  ![v7.toNat, 0, 0]
def k0_off4 (i : grid0.Coords) : Fin 3 → Nat :=
  let c0_15 : Index := 0#32
  let arg1 : BitVec 32 := BitVec.ofNat 32 (i 1).val
  let c12_i32_2 : BitVec 32 := 12#32
  let v6 : BitVec 32 := Scalar.subi arg1 c12_i32_2
  let c32_i32 : BitVec 32 := 32#32
  let v31 : BitVec 32 := Scalar.muli v6 c32_i32
  let v32 : Index := Scalar.indexCast v31
  let c0_16 : Index := 0#32
  ![0, v32.toNat, 0]
def cc0_transform_0 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.minsi arg1 c11_i32
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.minsi arg1 c11_i32
  let c0_i32 : BitVec 32 := 0#32
  let c0_i32_0 : BitVec 32 := 0#32
  let c0_i32_1 : BitVec 32 := 0#32
  ![arg0.toNat, c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

abbrev stage0_0 : Fin 2 → Memref sig .tc .vmem S1x96x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x35x32x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S96x35 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x96x32x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "inv_n" => some ((1 / 147456 : ℝ) : EReal)
  | _ => none
-- ==== ReferenceIdeal.lean ====
abbrev S2x96x384x384 : Shape := ⟨4, ![2, 96, 384, 384]⟩
abbrev S2x35x384x384 : Shape := ⟨4, ![2, 35, 384, 384]⟩
abbrev S35x96 : Shape := ⟨2, ![35, 96]⟩
abbrev S_ : Shape := ⟨0, ![]⟩
abbrev S2x96 : Shape := ⟨2, ![2, 96]⟩
abbrev S2x96x1x1 : Shape := ⟨4, ![2, 96, 1, 1]⟩
abbrev S2x384x384 : Shape := ⟨3, ![2, 384, 384]⟩
abbrev S2x384x384x1 : Shape := ⟨4, ![2, 384, 384, 1]⟩
abbrev S1 : Shape := ⟨1, ![1]⟩
abbrev S1x1x1x1 : Shape := ⟨4, ![1, 1, 1, 1]⟩
abbrev S2x384x384x96 : Shape := ⟨4, ![2, 384, 384, 96]⟩

abbrev nBuf : Space → Nat
  | .hbm => 97
  | .vmem => 0
  | .smem => 0
  | _ => 0

abbrev bufTy : (tb : Table) → Fin (tcTables nBuf tb) → BufTy
  | .hbm, ⟨0, _⟩ => ⟨S2x96x384x384, .f32⟩
  | .hbm, ⟨1, _⟩ => ⟨S2x35x384x384, .f32⟩
  | .hbm, ⟨2, _⟩ => ⟨S35x96, .f32⟩
  | .hbm, ⟨3, _⟩ => ⟨S35x96, .f32⟩
  | .hbm, ⟨4, _⟩ => ⟨S_, .f32⟩
  | .hbm, ⟨5, _⟩ => ⟨S2x96, .f32⟩
  | .hbm, ⟨6, _⟩ => ⟨S2x96x1x1, .f32⟩
  | .hbm, ⟨7, _⟩ => ⟨S_, .f32⟩
  | .hbm, ⟨8, _⟩ => ⟨S2x96x1x1, .f32⟩
  | .hbm, ⟨9, _⟩ => ⟨S2x96x1x1, .f32⟩
  | .hbm, ⟨10, _⟩ => ⟨S_, .i32⟩
  | .hbm, ⟨11, _⟩ => ⟨S_, .f32⟩
  | .hbm, ⟨12, _⟩ => ⟨S2x96, .f32⟩
  | .hbm, ⟨13, _⟩ => ⟨S2x96x1x1, .f32⟩
  | .hbm, ⟨14, _⟩ => ⟨S_, .f32⟩
  | .hbm, ⟨15, _⟩ => ⟨S2x96x1x1, .f32⟩
  | .hbm, ⟨16, _⟩ => ⟨S2x96x1x1, .f32⟩
  | .hbm, ⟨17, _⟩ => ⟨S2x96x384x384, .f32⟩
  | .hbm, ⟨18, _⟩ => ⟨S2x96x384x384, .f32⟩
  | .hbm, ⟨19, _⟩ => ⟨S2x96x384x384, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x96, .f32⟩
  | .hbm, ⟨25, _⟩ => ⟨S2x96x1x1, .f32⟩
  | .hbm, ⟨26, _⟩ => ⟨S2x96x1x1, .f32⟩
  | .hbm, ⟨27, _⟩ => ⟨S2x96x1x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x96x1x1, .f32⟩
  | .hbm, ⟨33, _⟩ => ⟨S2x96x1x1, .f32⟩
  | .hbm, ⟨34, _⟩ => ⟨S2x96x384x384, .f32⟩
  | .hbm, ⟨35, _⟩ => ⟨S2x96x384x384, .f32⟩
  | .hbm, ⟨36, _⟩ => ⟨S_, .f32⟩
  | .hbm, ⟨37, _⟩ => ⟨S2x96x1x1, .f32⟩
  | .hbm, ⟨38, _⟩ => ⟨S2x96x1x1, .f32⟩
  | .hbm, ⟨39, _⟩ => ⟨S2x96x1x1, .f32⟩
  | .hbm, ⟨40, _⟩ => ⟨S2x96x384x384, .f32⟩
  | .hbm, ⟨41, _⟩ => ⟨S2x96x384x384, .f32⟩
  | .hbm, ⟨42, _⟩ => ⟨S2x35x384x384, .i32⟩
  | .hbm, ⟨43, _⟩ => ⟨S_, .f32⟩
  | .hbm, ⟨44, _⟩ => ⟨S_, .i32⟩
  | .hbm, ⟨45, _⟩ => ⟨S2x384x384, .f32⟩
  | .hbm, ⟨46, _⟩ => ⟨S2x384x384, .i32⟩
  | .hbm, ⟨47, _⟩ => ⟨S_, .i32⟩
  | .hbm, ⟨48, _⟩ => ⟨S2x384x384, .i32⟩
  | .hbm, ⟨49, _⟩ => ⟨S2x384x384, .i1⟩
  | .hbm, ⟨50, _⟩ => ⟨S_, .i32⟩
  | .hbm, ⟨51, _⟩ => ⟨S2x384x384, .i32⟩
  | .hbm, ⟨52, _⟩ => ⟨S2x384x384, .i32⟩
  | .hbm, ⟨53, _⟩ => ⟨S2x384x384, .i32⟩
  | .hbm, ⟨54, _⟩ => ⟨S2x384x384x1, .i32⟩
  | .hbm, ⟨55, _⟩ => ⟨S1, .i32⟩
  | .hbm, ⟨56, _⟩ => ⟨S_, .i32⟩
  | .hbm, ⟨57, _⟩ => ⟨S2x384x384x1, .i32⟩
  | .hbm, ⟨58, _⟩ => ⟨S2x384x384x1, .i1⟩
  | .hbm, ⟨59, _⟩ => ⟨S1x1x1x1, .i32⟩
  | .hbm, ⟨60, _⟩ => ⟨S2x384x384x1, .i32⟩
  | .hbm, ⟨61, _⟩ => ⟨S2x384x384x1, .i1⟩
  | .hbm, ⟨62, _⟩ => ⟨S2x384x384x1, .i1⟩
  | .hbm, ⟨63, _⟩ => ⟨S_, .i1⟩
  | .hbm, ⟨64, _⟩ => ⟨S2x384x384, .i1⟩
  | .hbm, ⟨65, _⟩ => ⟨S2x384x384x96, .f32⟩
  | .hbm, ⟨66, _⟩ => ⟨S2x384x384x96, .i1⟩
  | .hbm, ⟨67, _⟩ => ⟨S_, .f32⟩
  | .hbm, ⟨68, _⟩ => ⟨S2x384x384x96, .f32⟩
  | .hbm, ⟨69, _⟩ => ⟨S2x384x384x96, .f32⟩
  | .hbm, ⟨70, _⟩ => ⟨S2x96x384x384, .f32⟩
  | .hbm, ⟨71, _⟩ => ⟨S_, .i32⟩
  | .hbm, ⟨72, _⟩ => ⟨S2x384x384, .i32⟩
  | .hbm, ⟨73, _⟩ => ⟨S2x384x384, .i1⟩
  | .hbm, ⟨74, _⟩ => ⟨S_, .i32⟩
  | .hbm, ⟨75, _⟩ => ⟨S2x384x384, .i32⟩
  | .hbm, ⟨76, _⟩ => ⟨S2x384x384, .i32⟩
  | .hbm, ⟨77, _⟩ => ⟨S2x384x384, .i32⟩
  | .hbm, ⟨78, _⟩ => ⟨S2x384x384x1, .i32⟩
  | .hbm, ⟨79, _⟩ => ⟨S1, .i32⟩
  | .hbm, ⟨80, _⟩ => ⟨S_, .i32⟩
  | .hbm, ⟨81, _⟩ => ⟨S2x384x384x1, .i32⟩
  | .hbm, ⟨82, _⟩ => ⟨S2x384x384x1, .i1⟩
  | .hbm, ⟨83, _⟩ => ⟨S1x1x1x1, .i32⟩
  | .hbm, ⟨84, _⟩ => ⟨S2x384x384x1, .i32⟩
  | .hbm, ⟨85, _⟩ => ⟨S2x384x384x1, .i1⟩
  | .hbm, ⟨86, _⟩ => ⟨S2x384x384x1, .i1⟩
  | .hbm, ⟨87, _⟩ => ⟨S_, .i1⟩
  | .hbm, ⟨88, _⟩ => ⟨S2x384x384, .i1⟩
  | .hbm, ⟨89, _⟩ => ⟨S2x384x384x96, .f32⟩
  | .hbm, ⟨90, _⟩ => ⟨S2x384x384x96, .i1⟩
  | .hbm, ⟨91, _⟩ => ⟨S_, .f32⟩
  | .hbm, ⟨92, _⟩ => ⟨S2x384x384x96, .f32⟩
  | .hbm, ⟨93, _⟩ => ⟨S2x384x384x96, .f32⟩
  | .hbm, ⟨94, _⟩ => ⟨S2x96x384x384, .f32⟩
  | .hbm, ⟨95, _⟩ => ⟨S2x96x384x384, .f32⟩
  | .hbm, ⟨96, _⟩ => ⟨S2x96x384x384, .f32⟩
  | _, _ => ⟨S2x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_call1_v0 : Ref sig .tc := ⟨.hbm, 42, rfl⟩
abbrev main_call1_cst : Ref sig .tc := ⟨.hbm, 43, rfl⟩
abbrev main_call1_c : Ref sig .tc := ⟨.hbm, 44, rfl⟩
abbrev main_call1_v1_0 : Ref sig .tc := ⟨.hbm, 45, rfl⟩
abbrev main_v12 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v13 : Ref sig .tc := ⟨.hbm, 69, rfl⟩
abbrev main_v14 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Frame
public import Idealize.ShloMosaic.Lib.WritesUnit
public import Idealize.ShloMosaic.Lib.Pipeline.ValueKit

@[expose] public section

set_option maxRecDepth 16384

/-!
# The fused kernel's body, run once

The body has three shapes: the first point of a sample (`j = 0`), the other points of the
statistics phase (`0 < j < 12`) and the points of the normalising phase (`12 ≤ j`). For each shape
this module gives what the body leaves in every buffer, as a function of what it found there.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The grid coordinate `j` is below 12: the statistics phase. -/
abbrev cPhase1 (i : grid0.Coords) : Prop := k0_cond1 i = 1#1
/-- The grid coordinate `j` is 0. -/
abbrev cFirst (i : grid0.Coords) : Prop := (Scalar.cmpi .ne (Scalar.extui (Scalar.cmpi .eq (BitVec.ofNat 32 (i 1).val) 0#32)) 0#32) = 1#1
/-- The grid coordinate `j` is not 0. -/
abbrev cLater (i : grid0.Coords) : Prop := (Scalar.cmpi .ne (Scalar.extui (Scalar.cmpi .ne (BitVec.ofNat 32 (i 1).val) 0#32)) 0#32) = 1#1
/-- The grid coordinate `j` is at least 12: the normalising phase. -/
abbrev cPhase2 (i : grid0.Coords) : Prop := k0_cond4 i = 1#1

/-- The contents `X` with the box at `off` of extents `size` replaced by `w`. -/
def placed {s : Shape} {α : Type} (off size : Fin s.rank → ℕ) (X : s.Idx → α) (w : (⟨s.rank, size⟩ : Shape).Idx → α) : s.Idx → α :=
  fun y => if h : ∀ a, off a ≤ (y a).val ∧ (y a).val < off a + size a then w (Rect.unitLocal (s := s) (off := off) (size := size) y h) else X y

/-- One store through a box of unit strides, over a whole buffer holding `X`, leaves `placed`. -/
theorem read_write_box {sp : Space} {s : Shape} {e : EltTy} (a : Memref sig .tc sp s e) (ha : a.IsWhole) (X : s.Idx → Elt F e)
    (off size : Fin s.rank → ℕ) (inb : ∀ k, off k + size k ≤ s.size k) (w : (Rect.unit off size inb).shape.Idx → Elt F e) :
    a.view.read (Elt F) (a.view.writes (Elt F) (ha.unread X) [⟨Rect.unit off size inb, w⟩]) = placed off size X w := by
  funext y
  refine (View.read_writes_cons_unit a.view (ha.unread X) inb w [] y rfl).trans ?_
  unfold placed
  split
  · rfl
  · exact congrFun (ha.read_unread X) y

/-- One store over the whole buffer leaves its payload. -/
theorem read_write_all {sp : Space} {s : Shape} {e : EltTy} (a : Memref sig .tc sp s e) (ha : a.IsWhole) (X : s.Idx → Elt F e)
    (off : Fin s.rank → ℕ) (inb : ∀ k, off k + s.size k ≤ s.size k) (h0 : ∀ k, off k = 0) (w w' : s.Idx → Elt F e) (hw : w = w') :
    a.view.read (Elt F) (a.view.writes (Elt F) (ha.unread X) [⟨Rect.unit off s.size inb, w⟩]) = w' := by
  subst hw
  funext y
  exact View.read_writes_cons_unit_of_mem a.view (ha.unread X) inb w [] y y rfl (fun k => by rw [h0 k]; omega)

set_option maxHeartbeats 1000000 in
/-- The first point of a sample: the two sums are set from the block, the block is kept in its rows of the kept copy, the block's class indices in their slab. -/
theorem run_first (c : Dev nD) (i : grid0.Coords)
    (arg2 : Memref sig .tc .vmem S1x96x32x384 .f32) (harg2 : arg2.IsWhole) (arg3 : Memref sig .tc .vmem S1x35x32x384 .f32) (harg3 : arg3.IsWhole)
    (arg4 : Memref sig .tc .vmem S96x35 .f32) (harg4 : arg4.IsWhole) (arg5 : Memref sig .tc .vmem S1x96x32x384 .f32) (harg5 : arg5.IsWhole)
    (arg6 : Memref sig .tc .vmem S96x1x1 .f32) (harg6 : arg6.IsWhole) (arg7 : Memref sig .tc .vmem S96x1x1 .f32) (harg7 : arg7.IsWhole)
    (arg8 : Memref sig .tc .vmem S96x384x384 .bf16) (harg8 : arg8.IsWhole) (arg9 : Memref sig .tc .vmem S12x8x1536 .i32) (harg9 : arg9.IsWhole)
    (hc0 : cPhase1 i) (hc1 : cFirst i) (hc2 : ¬cLater i) (hc3 : ¬cPhase2 i)
    (x0 : Vec F S1x96x32x384 .f32) (x1 : Vec F S1x35x32x384 .f32) (x2 : Vec F S96x35 .f32) (x3 : Vec F S1x96x32x384 .f32)
    (s6 s7 : Vec F S96x1x1 .f32) (s8 : Vec F S96x384x384 .bf16) (s9 : Vec F S12x8x1536 .i32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare s6 ∗ owns (c : Thread nD τ) arg7 fullShare s7 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 x0) ∗ owns (c : Thread nD τ) arg7 fullShare (k0_pay6 x0) ∗ owns (c : Thread nD τ) arg8 fullShare (placed (k0_off1 i) S96x32x384.size s8 (k0_pay9 x0)) ∗ owns (c : Thread nD τ) arg9 fullShare (placed (k0_off2 i) S1x8x1536.size s9 (k0_pay1 (k0_pay10 x1)))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hs0, HS0⟩, ⟨%fs1, %hs1, HS1⟩, ⟨%fs2, %hs2, HS2⟩, ⟨%fs3, %hs3, HS3⟩, Hk⟩
  obtain rfl := harg2.eq_unread hf0; obtain rfl := harg3.eq_unread hf1; obtain rfl := harg4.eq_unread hf2; obtain rfl := harg5.eq_unread hf3
  obtain rfl := harg6.eq_unread hs0; obtain rfl := harg7.eq_unread hs1; obtain rfl := harg8.eq_unread hs2; obtain rfl := harg9.eq_unread hs3
  sl_exec (disch := first | sl_exact hc0 | sl_exact hc1 | sl_exact hc2 | sl_exact hc3)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [HS0]
  · iexists _; isplitr; swap; · iexact HS0
    ipureintro; exact read_write_all arg6 harg6 s6 _ _ (by decide) _ _ (by frame_out)
  isplitl [HS1]
  · iexists _; isplitr; swap; · iexact HS1
    ipureintro; exact read_write_all arg7 harg7 s7 _ _ (by decide) _ _ (by frame_out)
  isplitl [HS2]
  · iexists _; isplitr; swap; · iexact HS2
    ipureintro; refine (read_write_box arg8 harg8 s8 _ _ _ _).trans ?_; refine congrArg (placed (s := S96x384x384) (α := Elt F .bf16) (k0_off1 i) S96x32x384.size s8) ?_; frame_out
  iexists _; isplitr; swap; · iexact HS3
  ipureintro; refine (read_write_box arg9 harg9 s9 _ _ _ _).trans ?_; refine congrArg (placed (s := S12x8x1536) (α := Elt F .i32) (k0_off2 i) S1x8x1536.size s9) ?_; frame_out

set_option maxHeartbeats 1000000 in
/-- A later point of the statistics phase: the block's sums are added to the two sums, the block and its class indices are kept. -/
theorem run_later (c : Dev nD) (i : grid0.Coords)
    (arg2 : Memref sig .tc .vmem S1x96x32x384 .f32) (harg2 : arg2.IsWhole) (arg3 : Memref sig .tc .vmem S1x35x32x384 .f32) (harg3 : arg3.IsWhole)
    (arg4 : Memref sig .tc .vmem S96x35 .f32) (harg4 : arg4.IsWhole) (arg5 : Memref sig .tc .vmem S1x96x32x384 .f32) (harg5 : arg5.IsWhole)
    (arg6 : Memref sig .tc .vmem S96x1x1 .f32) (harg6 : arg6.IsWhole) (arg7 : Memref sig .tc .vmem S96x1x1 .f32) (harg7 : arg7.IsWhole)
    (arg8 : Memref sig .tc .vmem S96x384x384 .bf16) (harg8 : arg8.IsWhole) (arg9 : Memref sig .tc .vmem S12x8x1536 .i32) (harg9 : arg9.IsWhole)
    (hc0 : cPhase1 i) (hc1 : ¬cFirst i) (hc2 : cLater i) (hc3 : ¬cPhase2 i)
    (x0 : Vec F S1x96x32x384 .f32) (x1 : Vec F S1x35x32x384 .f32) (x2 : Vec F S96x35 .f32) (x3 : Vec F S1x96x32x384 .f32)
    (s6 s7 : Vec F S96x1x1 .f32) (s8 : Vec F S96x384x384 .bf16) (s9 : Vec F S12x8x1536 .i32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare s6 ∗ owns (c : Thread nD τ) arg7 fullShare s7 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay7 x0 s6) ∗ owns (c : Thread nD τ) arg7 fullShare (k0_pay8 x0 s7) ∗ owns (c : Thread nD τ) arg8 fullShare (placed (k0_off1 i) S96x32x384.size s8 (k0_pay9 x0)) ∗ owns (c : Thread nD τ) arg9 fullShare (placed (k0_off2 i) S1x8x1536.size s9 (k0_pay1 (k0_pay10 x1)))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hs0, HS0⟩, ⟨%fs1, %hs1, HS1⟩, ⟨%fs2, %hs2, HS2⟩, ⟨%fs3, %hs3, HS3⟩, Hk⟩
  obtain rfl := harg2.eq_unread hf0; obtain rfl := harg3.eq_unread hf1; obtain rfl := harg4.eq_unread hf2; obtain rfl := harg5.eq_unread hf3
  obtain rfl := harg6.eq_unread hs0; obtain rfl := harg7.eq_unread hs1; obtain rfl := harg8.eq_unread hs2; obtain rfl := harg9.eq_unread hs3
  sl_exec (disch := first | sl_exact hc0 | sl_exact hc1 | sl_exact hc2 | sl_exact hc3)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [HS0]
  · iexists _; isplitr; swap; · iexact HS0
    ipureintro; exact read_write_all arg6 harg6 s6 _ _ (by decide) _ _ (by frame_out)
  isplitl [HS1]
  · iexists _; isplitr; swap; · iexact HS1
    ipureintro; exact read_write_all arg7 harg7 s7 _ _ (by decide) _ _ (by frame_out)
  isplitl [HS2]
  · iexists _; isplitr; swap; · iexact HS2
    ipureintro; refine (read_write_box arg8 harg8 s8 _ _ _ _).trans ?_; refine congrArg (placed (s := S96x384x384) (α := Elt F .bf16) (k0_off1 i) S96x32x384.size s8) ?_; frame_out
  iexists _; isplitr; swap; · iexact HS3
  ipureintro; refine (read_write_box arg9 harg9 s9 _ _ _ _).trans ?_; refine congrArg (placed (s := S12x8x1536) (α := Elt F .i32) (k0_off2 i) S1x8x1536.size s9) ?_; frame_out

set_option maxHeartbeats 1000000 in
/-- A point of the normalising phase: the output block is computed from the scratch, which stays as it was. -/
theorem run_normalise (c : Dev nD) (i : grid0.Coords)
    (arg2 : Memref sig .tc .vmem S1x96x32x384 .f32) (harg2 : arg2.IsWhole) (arg3 : Memref sig .tc .vmem S1x35x32x384 .f32) (harg3 : arg3.IsWhole)
    (arg4 : Memref sig .tc .vmem S96x35 .f32) (harg4 : arg4.IsWhole) (arg5 : Memref sig .tc .vmem S1x96x32x384 .f32) (harg5 : arg5.IsWhole)
    (arg6 : Memref sig .tc .vmem S96x1x1 .f32) (harg6 : arg6.IsWhole) (arg7 : Memref sig .tc .vmem S96x1x1 .f32) (harg7 : arg7.IsWhole)
    (arg8 : Memref sig .tc .vmem S96x384x384 .bf16) (harg8 : arg8.IsWhole) (arg9 : Memref sig .tc .vmem S12x8x1536 .i32) (harg9 : arg9.IsWhole)
    (hc0 : ¬cPhase1 i) (hc3 : cPhase2 i)
    (x0 : Vec F S1x96x32x384 .f32) (x1 : Vec F S1x35x32x384 .f32) (x2 : Vec F S96x35 .f32) (x3 : Vec F S1x96x32x384 .f32)
    (s6 s7 : Vec F S96x1x1 .f32) (s8 : Vec F S96x384x384 .bf16) (s9 : Vec F S12x8x1536 .i32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare s6 ∗ owns (c : Thread nD τ) arg7 fullShare s7 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare (k0_pay11 (View.ld s9 (Rect.unit (s := S12x8x1536) (k0_off3 i) S1x8x1536.size (k0_off3_inb i hc3))) x2 s6 s7 (View.ld s8 (Rect.unit (s := S96x384x384) (k0_off4 i) S96x32x384.size (k0_off4_inb i hc3)))) ∗ owns (c : Thread nD τ) arg6 fullShare s6 ∗ owns (c : Thread nD τ) arg7 fullShare s7 ∗ owns (c : Thread nD τ) arg8 fullShare s8 ∗ owns (c : Thread nD τ) arg9 fullShare s9) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  simp only [k0_part2_eq_skeleton]
  unfold owns
  iintro ⟨⟨%f0, %hf0, H0⟩, ⟨%f1, %hf1, H1⟩, ⟨%f2, %hf2, H2⟩, ⟨%f3, %hf3, H3⟩, ⟨%fs0, %hs0, HS0⟩, ⟨%fs1, %hs1, HS1⟩, ⟨%fs2, %hs2, HS2⟩, ⟨%fs3, %hs3, HS3⟩, Hk⟩
  obtain rfl := harg2.eq_unread hf0; obtain rfl := harg3.eq_unread hf1; obtain rfl := harg4.eq_unread hf2; obtain rfl := harg5.eq_unread hf3
  obtain rfl := harg6.eq_unread hs0; obtain rfl := harg7.eq_unread hs1; obtain rfl := harg8.eq_unread hs2; obtain rfl := harg9.eq_unread hs3
  sl_exec (disch := first | sl_exact hc0 | sl_exact hc3)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact read_write_all arg5 harg5 x3 _ _ (by decide) _ _ (by frame_out)
  isplitl [HS0]
  · iexists _; isplitr; swap; · iexact HS0
    ipureintro; exact hs0
  isplitl [HS1]
  · iexists _; isplitr; swap; · iexact HS1
    ipureintro; exact hs1
  isplitl [HS2]
  · iexists _; isplitr; swap; · iexact HS2
    ipureintro; exact hs2
  iexists _; isplitr; swap; · iexact HS3
  ipureintro; exact hs3

end Cert.KernelIdeal.Hand

end
-- ==== Proof.Launch.lean ====
module

public import proofs.«01_k».proof.Proof.Body
public import Idealize.ShloMosaic.Lib.Claim

@[expose] public section

set_option maxRecDepth 16384

/-!
# The launch of the fused kernel

The grid has 48 points, 24 per sample: twelve gather the statistics of a sample, twelve write its
output blocks. Between points the four scratch buffers carry the two running sums, the kept copy of
the sample and the class index of every pixel. `Kept` says what they hold; the run shows that it is
kept from point to point and that each output block is the payload of what the scratch holds.
-/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points -/

/-- The body is in its statistics phase at the first twelve points of a sample. -/
theorem phase1_iff : ∀ t : Fin cfg0.N, cPhase1 (grid0.coords t) ↔ t.val % 24 ≤ 11 :=
  (by decide +kernel : ∀ t : Fin grid0.N, cPhase1 (grid0.coords t) ↔ t.val % 24 ≤ 11)

/-- It sets the sums at the first point of a sample. -/
theorem first_iff : ∀ t : Fin cfg0.N, cFirst (grid0.coords t) ↔ t.val % 24 = 0 :=
  (by decide +kernel : ∀ t : Fin grid0.N, cFirst (grid0.coords t) ↔ t.val % 24 = 0)

/-- It accumulates at the others. -/
theorem later_iff : ∀ t : Fin cfg0.N, cLater (grid0.coords t) ↔ 1 ≤ t.val % 24 :=
  (by decide +kernel : ∀ t : Fin grid0.N, cLater (grid0.coords t) ↔ 1 ≤ t.val % 24)

/-- It normalises at the last twelve points of a sample. -/
theorem phase2_iff : ∀ t : Fin cfg0.N, cPhase2 (grid0.coords t) ↔ 12 ≤ t.val % 24 :=
  (by decide +kernel : ∀ t : Fin grid0.N, cPhase2 (grid0.coords t) ↔ 12 ≤ t.val % 24)

/-- The rows of the kept copy a statistics point fills. -/
theorem off1_eq : ∀ t : Fin cfg0.N, t.val % 24 ≤ 11 → k0_off1 (grid0.coords t) = ![0, 32 * (t.val % 24), 0] :=
  (by decide +kernel : ∀ t : Fin grid0.N, t.val % 24 ≤ 11 → k0_off1 (grid0.coords t) = ![0, 32 * (t.val % 24), 0])

/-- The slab of class indices a statistics point fills. -/
theorem off2_eq : ∀ t : Fin cfg0.N, t.val % 24 ≤ 11 → k0_off2 (grid0.coords t) = ![t.val % 24, 0, 0] :=
  (by decide +kernel : ∀ t : Fin grid0.N, t.val % 24 ≤ 11 → k0_off2 (grid0.coords t) = ![t.val % 24, 0, 0])

/-- The slab of class indices a normalising point reads. -/
theorem off3_eq : ∀ t : Fin cfg0.N, 12 ≤ t.val % 24 → k0_off3 (grid0.coords t) = ![t.val % 24 - 12, 0, 0] :=
  (by decide +kernel : ∀ t : Fin grid0.N, 12 ≤ t.val % 24 → k0_off3 (grid0.coords t) = ![t.val % 24 - 12, 0, 0])

/-- The rows of the kept copy a normalising point reads. -/
theorem off4_eq : ∀ t : Fin cfg0.N, 12 ≤ t.val % 24 → k0_off4 (grid0.coords t) = ![0, 32 * (t.val % 24 - 12), 0] :=
  (by decide +kernel : ∀ t : Fin grid0.N, 12 ≤ t.val % 24 → k0_off4 (grid0.coords t) = ![0, 32 * (t.val % 24 - 12), 0])

/-- The output window is idle in the statistics phase, -/
theorem idle3_phase1 : ∀ t : Fin cfg0.N, t.val % 24 ≤ 11 → cfg0.idle 3 (cfg0.grid.coords t) = true :=
  (by decide +kernel : ∀ t : Fin grid0.N, t.val % 24 ≤ 11 → idle0 3 (grid0.coords t) = true)

/-- is not written back there, -/
theorem flush3_phase1 : ∀ t : Fin cfg0.N, t.val % 24 ≤ 11 → (cfg0.win 3).flush t = false :=
  (by decide +kernel : ∀ t : Fin grid0.N, t.val % 24 ≤ 11 → win0_3.flush t = false)

/-- and is live in the normalising phase. -/
theorem live3_phase2 : ∀ t : Fin cfg0.N, 12 ≤ t.val % 24 → cfg0.idle 3 (cfg0.grid.coords t) = false :=
  (by decide +kernel : ∀ t : Fin grid0.N, 12 ≤ t.val % 24 → idle0 3 (grid0.coords t) = false)

/-! ## What the scratch holds -/

/-- The point of number `n`. -/
def pt (n : ℕ) : Fin cfg0.N := ⟨n % 48, lt_of_lt_of_eq (Nat.mod_lt _ (by decide)) (show 48 = cfg0.N from N_0.symm)⟩

/-- A point is the point of its number. -/
theorem pt_val (t : Fin cfg0.N) : pt t.val = t := by
  have : t.val < 48 := lt_of_lt_of_eq t.isLt (show cfg0.N = 48 from N_0)
  exact Fin.ext (Nat.mod_eq_of_lt this)

/-- The block of the input the point of number `n` is given. -/
def xBlk (c : Dev nD) (n : ℕ) : Vec F S1x96x32x384 .f32 := iblk m c 0 (pt n)

/-- The block of the class scores the point of number `n` is given. -/
def segBlk (c : Dev nD) (n : ℕ) : Vec F S1x35x32x384 .f32 := iblk m c 1 (pt n)

/-- The running sums of sample `b` after its statistics point `k`. -/
def sums (c : Dev nD) (b : ℕ) : ℕ → Vec F S96x1x1 .f32
  | 0 => k0_pay5 (xBlk m c (24 * b))
  | k + 1 => k0_pay7 (xBlk m c (24 * b + (k + 1))) (sums c b k)

/-- The running sums of squares of sample `b` after its statistics point `k`. -/
def squares (c : Dev nD) (b : ℕ) : ℕ → Vec F S96x1x1 .f32
  | 0 => k0_pay6 (xBlk m c (24 * b))
  | k + 1 => k0_pay8 (xBlk m c (24 * b + (k + 1))) (squares c b k)

/-- Rows `32 k …` of the kept copy stay inside it. -/
theorem rows_inb (k : Fin 12) : ∀ a, (![0, 32 * k.val, 0] : Fin 3 → ℕ) a + S96x32x384.size a ≤ S96x384x384.size a := by
  revert k; decide

/-- Slab `k` of the class indices stays inside them. -/
theorem slab_inb (k : Fin 12) : ∀ a, (![k.val, 0, 0] : Fin 3 → ℕ) a + S1x8x1536.size a ≤ S12x8x1536.size a := by
  revert k; decide

/-- What the scratch buffers hold before point `n`: nothing known at the first point of a sample; after its statistics
    points `0 … k`, the running sums there, the blocks of the input in their rows and the class indices in their slabs. -/
def Kept (c : Dev nD) (n : ℕ) (s6 s7 : Vec F S96x1x1 .f32) (s8 : Vec F S96x384x384 .bf16) (s9 : Vec F S12x8x1536 .i32) : Prop :=
  1 ≤ n % 24 → s6 = sums m c (n / 24) (min (n % 24) 12 - 1) ∧ s7 = squares m c (n / 24) (min (n % 24) 12 - 1)
    ∧ (∀ k : Fin 12, k.val < n % 24 → View.ld s8 (Rect.unit (s := S96x384x384) ![0, 32 * k.val, 0] S96x32x384.size (rows_inb k)) = k0_pay9 (xBlk m c (24 * (n / 24) + k.val)))
    ∧ (∀ k : Fin 12, k.val < n % 24 → View.ld s9 (Rect.unit (s := S12x8x1536) ![k.val, 0, 0] S1x8x1536.size (slab_inb k)) = k0_pay1 (k0_pay10 (segBlk m c (24 * (n / 24) + k.val))))

/-- A box just written reads back what was written. -/
theorem ld_placed {s : Shape} {e : EltTy} (off off' size : Fin s.rank → ℕ) (X : Vec F s e) (w : Vec F ⟨s.rank, size⟩ e)
    (inb : ∀ a, off' a + size a ≤ s.size a) (h : off = off') : View.ld (placed (α := Elt F e) off size X w) (Rect.unit off' size inb) = w := by
  subst h
  funext x
  have hv : ∀ a, ((Rect.unit off size inb).idx x a : ℕ) = off a + x a := fun a => Rect.idx_unit_val off size inb x a
  have hx : ∀ a, (x a : ℕ) < size a := fun a => (x a).isLt
  rw [View.ld_apply]
  unfold placed
  rw [dif_pos (fun a => by rw [hv a]; exact ⟨Nat.le_add_right _ _, Nat.add_lt_add_left (hx a) _⟩)]
  refine congrArg w (funext fun a => Fin.ext ?_)
  rw [Rect.unitLocal_val, hv a, Nat.add_sub_cancel_left]

/-- A box apart from the one just written, along some axis `a`, reads back what was there. -/
theorem ld_placed_apart {s : Shape} {e : EltTy} (off off' size : Fin s.rank → ℕ) (X : Vec F s e) (w : Vec F ⟨s.rank, size⟩ e)
    (inb : ∀ a, off' a + size a ≤ s.size a) (a : Fin s.rank) (h : off' a + size a ≤ off a) :
    View.ld (placed (α := Elt F e) off size X w) (Rect.unit off' size inb) = View.ld (Val := Elt F) (e' := e) X (Rect.unit off' size inb) := by
  funext x
  have hv : ((Rect.unit off' size inb).idx x a : ℕ) = off' a + x a := Rect.idx_unit_val off' size inb x a
  have hx : (x a : ℕ) < size a := (x a).isLt
  rw [View.ld_apply, View.ld_apply]
  unfold placed
  rw [dif_neg (fun hc => by have := (hc a).1; rw [hv] at this; omega)]

/-- The first point of a sample establishes what is kept. -/
theorem kept_first (c : Dev nD) (n : ℕ) (h : n % 24 = 0) (s8 : Vec F S96x384x384 .bf16) (s9 : Vec F S12x8x1536 .i32)
    (o1 o2 : Fin 3 → ℕ) (h1 : o1 = ![0, 32 * (n % 24), 0]) (h2 : o2 = ![n % 24, 0, 0]) :
    Kept m c (n + 1) (k0_pay5 (xBlk m c n)) (k0_pay6 (xBlk m c n))
      (placed (s := S96x384x384) (α := Elt F .bf16) o1 S96x32x384.size s8 (k0_pay9 (xBlk m c n)))
      (placed (s := S12x8x1536) (α := Elt F .i32) o2 S1x8x1536.size s9 (k0_pay1 (k0_pay10 (segBlk m c n)))) := by
  intro _
  have e1 : (n + 1) / 24 = n / 24 := by omega
  have e2 : (n + 1) % 24 = 1 := by omega
  have e3 : 24 * (n / 24) = n := by omega
  rw [e1, e2, show min 1 12 - 1 = 0 from rfl]
  unfold sums squares
  rw [e3]
  refine ⟨rfl, rfl, fun k hk => ?_, fun k hk => ?_⟩
  · have hk0 : k.val = 0 := by omega
    rw [show n + k.val = n by omega]
    exact ld_placed _ _ _ _ _ _ (by rw [h1, h, hk0])
  · have hk0 : k.val = 0 := by omega
    rw [show n + k.val = n by omega]
    exact ld_placed _ _ _ _ _ _ (by rw [h2, h, hk0])

/-- A later statistics point extends it by its block. -/
theorem kept_later (c : Dev nD) (n : ℕ) (h : 1 ≤ n % 24) (h' : n % 24 ≤ 11) (s6 s7 : Vec F S96x1x1 .f32) (s8 : Vec F S96x384x384 .bf16) (s9 : Vec F S12x8x1536 .i32)
    (o1 o2 : Fin 3 → ℕ) (h1 : o1 = ![0, 32 * (n % 24), 0]) (h2 : o2 = ![n % 24, 0, 0]) (hK : Kept m c n s6 s7 s8 s9) :
    Kept m c (n + 1) (k0_pay7 (xBlk m c n) s6) (k0_pay8 (xBlk m c n) s7)
      (placed (s := S96x384x384) (α := Elt F .bf16) o1 S96x32x384.size s8 (k0_pay9 (xBlk m c n)))
      (placed (s := S12x8x1536) (α := Elt F .i32) o2 S1x8x1536.size s9 (k0_pay1 (k0_pay10 (segBlk m c n)))) := by
  intro _
  obtain ⟨k6, k7, k8, k9⟩ := hK h
  obtain ⟨j, hj⟩ : ∃ j, n % 24 = j + 1 := ⟨n % 24 - 1, by omega⟩
  have e1 : (n + 1) / 24 = n / 24 := by omega
  have e2 : (n + 1) % 24 = j + 2 := by omega
  have e3 : 24 * (n / 24) + (j + 1) = n := by omega
  have e4 : min (j + 2) 12 - 1 = j + 1 := by omega
  have e5 : min (n % 24) 12 - 1 = j := by omega
  rw [e5] at k6 k7
  rw [e1, e2, e4]
  refine ⟨?_, ?_, fun k hk => ?_, fun k hk => ?_⟩
  · rw [show sums m c (n / 24) (j + 1) = k0_pay7 (xBlk m c (24 * (n / 24) + (j + 1))) (sums m c (n / 24) j) from rfl, e3, k6]
  · rw [show squares m c (n / 24) (j + 1) = k0_pay8 (xBlk m c (24 * (n / 24) + (j + 1))) (squares m c (n / 24) j) from rfl, e3, k7]
  · rcases Nat.lt_or_ge k.val (n % 24) with hlt | hge
    · refine (ld_placed_apart _ _ _ _ _ _ (1 : Fin 3) ?_).trans (k8 k hlt)
      rw [h1]
      show 32 * k.val + 32 ≤ 32 * (n % 24)
      omega
    · have hkn : k.val = n % 24 := by omega
      rw [show 24 * (n / 24) + k.val = n by omega]
      exact ld_placed _ _ _ _ _ _ (by rw [h1, hkn])
  · rcases Nat.lt_or_ge k.val (n % 24) with hlt | hge
    · refine (ld_placed_apart _ _ _ _ _ _ (0 : Fin 3) ?_).trans (k9 k hlt)
      rw [h2]
      show k.val + 1 ≤ n % 24
      omega
    · have hkn : k.val = n % 24 := by omega
      rw [show 24 * (n / 24) + k.val = n by omega]
      exact ld_placed _ _ _ _ _ _ (by rw [h2, hkn])

/-- A normalising point leaves it as it is. -/
theorem kept_normalise (c : Dev nD) (n : ℕ) (h : 12 ≤ n % 24) (s6 s7 : Vec F S96x1x1 .f32) (s8 : Vec F S96x384x384 .bf16) (s9 : Vec F S12x8x1536 .i32)
    (hK : Kept m c n s6 s7 s8 s9) : Kept m c (n + 1) s6 s7 s8 s9 := by
  intro h1
  obtain ⟨k6, k7, k8, k9⟩ := hK (by omega)
  have e1 : (n + 1) / 24 = n / 24 := by omega
  have e4 : min ((n + 1) % 24) 12 - 1 = min (n % 24) 12 - 1 := by omega
  rw [e1, e4]
  exact ⟨k6, k7, fun k _ => k8 k (by have := k.isLt; omega), fun k _ => k9 k (by have := k.isLt; omega)⟩

/-! ## The output block of a normalising point -/

/-- The table the point of number `n` is given. -/
def tblBlk (c : Dev nD) (n : ℕ) : Vec F S96x35 .f32 := iblk m c 2 (pt n)

/-- What the normalising point of number `n` writes: the payload of the class indices and the block gathered twelve points
    before, of the table, and of the whole sample's two sums. -/
def outBlk (c : Dev nD) (n : ℕ) : Vec F S1x96x32x384 .f32 :=
  k0_pay11 (k0_pay1 (k0_pay10 (segBlk m c (n - 12)))) (tblBlk m c n) (sums m c (n / 24) 11) (squares m c (n / 24) 11) (k0_pay9 (xBlk m c (n - 12)))

/-- A load through a box named by equal offsets is the same load. -/
theorem ld_off {s : Shape} {e : EltTy} (X : Vec F s e) (off off' size : Fin s.rank → ℕ) (inb : ∀ a, off a + size a ≤ s.size a) (inb' : ∀ a, off' a + size a ≤ s.size a)
    (h : off = off') : View.ld (Val := Elt F) (e' := e) X (Rect.unit off size inb) = View.ld (Val := Elt F) (e' := e) X (Rect.unit off' size inb') := by
  subst h; rfl

/-- What is kept makes the payload of a normalising point its output block. -/
theorem out_of_kept (c : Dev nD) (n : ℕ) (h : 12 ≤ n % 24) (s6 s7 : Vec F S96x1x1 .f32) (s8 : Vec F S96x384x384 .bf16) (s9 : Vec F S12x8x1536 .i32)
    (hK : Kept m c n s6 s7 s8 s9) (o3 o4 : Fin 3 → ℕ) (h3 : o3 = ![n % 24 - 12, 0, 0]) (h4 : o4 = ![0, 32 * (n % 24 - 12), 0])
    (inb3 : ∀ a, o3 a + S1x8x1536.size a ≤ S12x8x1536.size a) (inb4 : ∀ a, o4 a + S96x32x384.size a ≤ S96x384x384.size a) :
    k0_pay11 (View.ld s9 (Rect.unit (s := S12x8x1536) o3 S1x8x1536.size inb3)) (tblBlk m c n) s6 s7
      (View.ld s8 (Rect.unit (s := S96x384x384) o4 S96x32x384.size inb4)) = outBlk m c n := by
  obtain ⟨k6, k7, k8, k9⟩ := hK (by omega)
  have hk : n % 24 - 12 < 12 := by omega
  have e0 : min (n % 24) 12 - 1 = 11 := by omega
  have e1 : 24 * (n / 24) + (n % 24 - 12) = n - 12 := by omega
  have r8 := k8 ⟨n % 24 - 12, hk⟩ (by show n % 24 - 12 < n % 24; omega)
  have r9 := k9 ⟨n % 24 - 12, hk⟩ (by show n % 24 - 12 < n % 24; omega)
  rw [show 24 * (n / 24) + (⟨n % 24 - 12, hk⟩ : Fin 12).val = n - 12 from e1] at r8 r9
  rw [e0] at k6 k7
  unfold outBlk
  rw [ld_off s9 o3 _ _ inb3 (slab_inb ⟨n % 24 - 12, hk⟩) h3, ld_off s8 o4 _ _ inb4 (rows_inb ⟨n % 24 - 12, hk⟩) h4, r8, r9, k6, k7]

/-! ## The proof data -/

/-- Each window's current staging memref at point `t`, and its wholeness. -/
abbrev stg0 (t : Fin cfg0.N) : Memref sig .tc .vmem S1x96x32x384 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1x35x32x384 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S96x35 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x96x32x384 .f32 := win0_3.stage (cfg0.slots t 3)
abbrev hstg3 (t : Fin cfg0.N) : (stg3 t).IsWhole := hstage0_3 ((cfg0.slots t 3).cast nbuf0_3)
/-- The scratch: the sums, the sums of squares, the kept copy, the class indices. -/
abbrev scr6 : Memref sig .tc .vmem S96x1x1 .f32 := Memref.whole cc0_scratch0
abbrev scr7 : Memref sig .tc .vmem S96x1x1 .f32 := Memref.whole cc0_scratch1
abbrev scr8 : Memref sig .tc .vmem S96x384x384 .bf16 := Memref.whole cc0_scratch2
abbrev scr9 : Memref sig .tc .vmem S12x8x1536 .i32 := Memref.whole cc0_scratch3

/-- What the launch hands the region: the scratch at some contents and the generator register. -/
theorem handed_eq (c : Dev nD) :
    (Pipeline.ΦA spec0 c : sProp 𝕄)
      = iprop(iprop((∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d)) ∗ (∃ r, prngReg c r)) := by
  unfold Pipeline.ΦA; rw [scopedRest0_eq]; simp only [scr6, scr7, scr8, scr9, owns_whole]; try rfl

/-- The invariant before point `n`: the scratch holds what is kept there. -/
def Held (c : Dev nD) (n : ℕ) : sProp 𝕄 :=
  iprop((∃ s6, ∃ s7, ∃ s8, ∃ s9, ⌜Kept m c n s6 s7 s8 s9⌝ ∗ owns (c : Thread nD τ) scr6 fullShare s6 ∗ owns (c : Thread nD τ) scr7 fullShare s7
    ∗ owns (c : Thread nD τ) scr8 fullShare s8 ∗ owns (c : Thread nD τ) scr9 fullShare s9) ∗ (∃ r, prngReg c r))

/-- The proof data: the inputs stay their blocks, the output is the normalising point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t.val
  Φ t := Held m c t.val
  q _ := fullShare
  owed _ := 0

/-- The arrays are what the region finds. -/
theorem A_eq (c : Dev nD) (w : Fin cfg0.W) : (dats m 0 c).A w = V m c (Pipeline.arrRef spec0 w) := by
  dsimp only [dats]

/-- The invariant before a point. -/
theorem held_castSucc (c : Dev nD) (t : Fin cfg0.N) : (dats m 0 c).Φ t.castSucc = Held m c t.val := by
  dsimp only [dats]; rfl

/-- What the body leaves in each window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlk m c t.val := by dsimp only [dats]

/-- What the body finds in each input window: its block. -/
theorem before_0 (c : Dev nD) (t : Fin cfg0.N) (d) : (dats m 0 c).before 0 t d = xBlk m c t.val :=
  (before0_0_of m (dats m 0 c) (A_eq m c 0) (after_0 m c) t d).trans (by unfold xBlk; rw [pt_val])
theorem before_1 (c : Dev nD) (t : Fin cfg0.N) (d) : (dats m 0 c).before 1 t d = segBlk m c t.val :=
  (before0_1_of m (dats m 0 c) (A_eq m c 1) (after_1 m c) t d).trans (by unfold segBlk; rw [pt_val])
theorem before_2 (c : Dev nD) (t : Fin cfg0.N) (d) : (dats m 0 c).before 2 t d = tblBlk m c t.val :=
  (before0_2_of m (dats m 0 c) (A_eq m c 2) (after_2 m c) t d).trans (by unfold tblBlk; rw [pt_val])

/-- What the body returns in each input window. -/
theorem leaves_0 (c : Dev nD) (t : Fin cfg0.N) : (dats m 0 c).leavesExact 0 t = owns (c : Thread nD τ) (stg0 t) fullShare (xBlk m c t.val) := by
  unfold Dat.leavesExact; rw [show cfg0.idle 0 (cfg0.grid.coords t) = false from rfl, after_0]; unfold xBlk; rw [pt_val]
theorem leaves_1 (c : Dev nD) (t : Fin cfg0.N) : (dats m 0 c).leavesExact 1 t = owns (c : Thread nD τ) (stg1 t) fullShare (segBlk m c t.val) := by
  unfold Dat.leavesExact; rw [show cfg0.idle 1 (cfg0.grid.coords t) = false from rfl, after_1]; unfold segBlk; rw [pt_val]
theorem leaves_2 (c : Dev nD) (t : Fin cfg0.N) : (dats m 0 c).leavesExact 2 t = owns (c : Thread nD τ) (stg2 t) fullShare (tblBlk m c t.val) := by
  unfold Dat.leavesExact; rw [show cfg0.idle 2 (cfg0.grid.coords t) = false from rfl, after_2]; unfold tblBlk; rw [pt_val]
/-- And in the output window: at a statistics point what it found, at a normalising point the output block. -/
theorem leaves_3_idle (c : Dev nD) (t : Fin cfg0.N) (h : t.val % 24 ≤ 11) :
    (dats m 0 c).leavesExact 3 t = iprop(∃ d, owns (c : Thread nD τ) (stg3 t) fullShare ((dats m 0 c).before 3 t d)) :=
  (dats m 0 c).leavesExact_idle 3 t (idle3_phase1 t h) (flush3_phase1 t h)
theorem leaves_3 (c : Dev nD) (t : Fin cfg0.N) (h : 12 ≤ t.val % 24) :
    (dats m 0 c).leavesExact 3 t = owns (c : Thread nD τ) (stg3 t) fullShare (outBlk m c t.val) := by
  unfold Dat.leavesExact; rw [live3_phase2 t h, after_3]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 2000000 in
/-- The body at the first point of a sample. -/
theorem body_first (c : Dev nD) (t : Fin cfg0.N) (h1 : t.val % 24 = 0) :
    bodyPre m c t ⊢ wp frame (wpE (defs₀ (F := F)) Variants.none c none) Set.univ (bodyAt0 t) (fun _ => bodyPost m c t) := by
  unfold bodyPre bodyPost bodyAt0
  simp only [before_0, before_1, before_2, leaves_0, leaves_1, leaves_2]
  rw [show (dats m 0 c).owesAt () t.succ = (dats m 0 c).owesAt () t.castSucc from rfl]
  rw [show (dats m 0 c).Φ t.succ = Held m c (t.val + 1) from rfl, held_castSucc]
  unfold Held
  rw [leaves_3_idle m c t (by omega)]
  iintro ⟨⟨⟨%s6, %s7, %s8, %s9, %hK, HS6, HS7, HS8, HS9⟩, Hg⟩, Ho, ⟨%d0, H0⟩, ⟨%d1, H1⟩, ⟨%d2, H2⟩, ⟨%d3, H3⟩⟩
  iapply (run_first c (grid0.coords t) _ _ _ _ _ _ _ _ _ _ _ _ _ _ _ _ ((phase1_iff t).mpr (by omega)) ((first_iff t).mpr h1) (fun h => by have := (later_iff t).mp h; omega) (fun h => by have := (phase2_iff t).mp h; omega) _ _ _ _ s6 s7 s8 s9 Set.univ _)
  isplitl [H0]; · iexact H0
  isplitl [H1]; · iexact H1
  isplitl [H2]; · iexact H2
  isplitl [H3]; · iexact H3
  isplitl [HS6]; · iexact HS6
  isplitl [HS7]; · iexact HS7
  isplitl [HS8]; · iexact HS8
  isplitl [HS9]; · iexact HS9
  iintro ⟨H0, H1, H2, H3, HS6, HS7, HS8, HS9⟩
  isplitl [HS6 HS7 HS8 HS9 Hg]
  · isplitl [HS6 HS7 HS8 HS9]
    · iexists _; iexists _; iexists _; iexists _
      isplitr; swap
      · isplitl [HS6]; · iexact HS6
        isplitl [HS7]; · iexact HS7
        isplitl [HS8]; · iexact HS8
        iexact HS9
      ipureintro; exact kept_first m c t.val h1 s8 s9 _ _ (off1_eq t (by omega)) (off2_eq t (by omega))
    iexact Hg
  isplitl [Ho]; · iexact Ho
  isplitl [H0]; · iexact H0
  isplitl [H1]; · iexact H1
  isplitl [H2]; · iexact H2
  iexists _; iexact H3

set_option maxHeartbeats 2000000 in
/-- The body at a later statistics point. -/
theorem body_later (c : Dev nD) (t : Fin cfg0.N) (h1 : 1 ≤ t.val % 24) (h2 : t.val % 24 ≤ 11) :
    bodyPre m c t ⊢ wp frame (wpE (defs₀ (F := F)) Variants.none c none) Set.univ (bodyAt0 t) (fun _ => bodyPost m c t) := by
  unfold bodyPre bodyPost bodyAt0
  simp only [before_0, before_1, before_2, leaves_0, leaves_1, leaves_2]
  rw [show (dats m 0 c).owesAt () t.succ = (dats m 0 c).owesAt () t.castSucc from rfl]
  rw [show (dats m 0 c).Φ t.succ = Held m c (t.val + 1) from rfl, held_castSucc]
  unfold Held
  rw [leaves_3_idle m c t h2]
  iintro ⟨⟨⟨%s6, %s7, %s8, %s9, %hK, HS6, HS7, HS8, HS9⟩, Hg⟩, Ho, ⟨%d0, H0⟩, ⟨%d1, H1⟩, ⟨%d2, H2⟩, ⟨%d3, H3⟩⟩
  iapply (run_later c (grid0.coords t) _ _ _ _ _ _ _ _ _ _ _ _ _ _ _ _ ((phase1_iff t).mpr h2) (fun h => by have := (first_iff t).mp h; omega) ((later_iff t).mpr h1) (fun h => by have := (phase2_iff t).mp h; omega) _ _ _ _ s6 s7 s8 s9 Set.univ _)
  isplitl [H0]; · iexact H0
  isplitl [H1]; · iexact H1
  isplitl [H2]; · iexact H2
  isplitl [H3]; · iexact H3
  isplitl [HS6]; · iexact HS6
  isplitl [HS7]; · iexact HS7
  isplitl [HS8]; · iexact HS8
  isplitl [HS9]; · iexact HS9
  iintro ⟨H0, H1, H2, H3, HS6, HS7, HS8, HS9⟩
  isplitl [HS6 HS7 HS8 HS9 Hg]
  · isplitl [HS6 HS7 HS8 HS9]
    · iexists _; iexists _; iexists _; iexists _
      isplitr; swap
      · isplitl [HS6]; · iexact HS6
        isplitl [HS7]; · iexact HS7
        isplitl [HS8]; · iexact HS8
        iexact HS9
      ipureintro; exact kept_later m c t.val h1 h2 s6 s7 s8 s9 _ _ (off1_eq t h2) (off2_eq t h2) hK
    iexact Hg
  isplitl [Ho]; · iexact Ho
  isplitl [H0]; · iexact H0
  isplitl [H1]; · iexact H1
  isplitl [H2]; · iexact H2
  iexists _; iexact H3

set_option maxHeartbeats 2000000 in
/-- The body at a normalising point. -/
theorem body_normalise (c : Dev nD) (t : Fin cfg0.N) (h3 : 12 ≤ t.val % 24) :
    bodyPre m c t ⊢ wp frame (wpE (defs₀ (F := F)) Variants.none c none) Set.univ (bodyAt0 t) (fun _ => bodyPost m c t) := by
  unfold bodyPre bodyPost bodyAt0
  simp only [before_0, before_1, before_2, leaves_0, leaves_1, leaves_2]
  rw [show (dats m 0 c).owesAt () t.succ = (dats m 0 c).owesAt () t.castSucc from rfl]
  rw [show (dats m 0 c).Φ t.succ = Held m c (t.val + 1) from rfl, held_castSucc]
  unfold Held
  rw [leaves_3 m c t h3]
  iintro ⟨⟨⟨%s6, %s7, %s8, %s9, %hK, HS6, HS7, HS8, HS9⟩, Hg⟩, Ho, ⟨%d0, H0⟩, ⟨%d1, H1⟩, ⟨%d2, H2⟩, ⟨%d3, H3⟩⟩
  iapply (run_normalise c (grid0.coords t) _ _ _ _ _ _ _ _ _ _ _ _ _ _ _ _ (fun h => by have := (phase1_iff t).mp h; omega) ((phase2_iff t).mpr h3) _ _ _ _ s6 s7 s8 s9 Set.univ _)
  isplitl [H0]; · iexact H0
  isplitl [H1]; · iexact H1
  isplitl [H2]; · iexact H2
  isplitl [H3]; · iexact H3
  isplitl [HS6]; · iexact HS6
  isplitl [HS7]; · iexact HS7
  isplitl [HS8]; · iexact HS8
  isplitl [HS9]; · iexact HS9
  iintro ⟨H0, H1, H2, H3, HS6, HS7, HS8, HS9⟩
  isplitl [HS6 HS7 HS8 HS9 Hg]
  · isplitl [HS6 HS7 HS8 HS9]
    · iexists _; iexists _; iexists _; iexists _
      isplitr; swap
      · isplitl [HS6]; · iexact HS6
        isplitl [HS7]; · iexact HS7
        isplitl [HS8]; · iexact HS8
        iexact HS9
      ipureintro; exact kept_normalise m c t.val h3 s6 s7 s8 s9 hK
    iexact Hg
  isplitl [Ho]; · iexact Ho
  isplitl [H0]; · iexact H0
  isplitl [H1]; · iexact H1
  isplitl [H2]; · iexact H2
  rw [← out_of_kept m c t.val h3 s6 s7 s8 s9 hK _ _ (off3_eq t h3) (off4_eq t h3) (k0_off3_inb _ ((phase2_iff t).mpr h3)) (k0_off4_inb _ ((phase2_iff t).mpr h3))]
  iexact H3

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : t.val % 24 = 0
  · exact body_first m c t h1
  · by_cases h2 : t.val % 24 ≤ 11
    · exact body_later m c t (by omega) h2
    · exact body_normalise m c t (by omega)

/-- The body table's row at a point's slots is the body. -/
theorem row_eq (t : Fin cfg0.N) : defs₀ (F := F) .tc cfg0.body (cfg0.bodyArgs t (cfg0.slots t)) = bodyAt0 t := by
  unfold defs₀; rw [Defs.onTc_tc]

/-- The library's obligation on the body. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- What the launch hands the region is the invariant before the first point. -/
theorem held_in (c : Dev nD) : Pipeline.ΦA spec0 c ⊢ (dats m 0 c).Φ 0 := by
  rw [show (dats m 0 c).Φ 0 = Held m c 0 from rfl, handed_eq]
  unfold Held
  iintro ⟨⟨⟨%s6, HS6⟩, ⟨%s7, HS7⟩, ⟨%s8, HS8⟩, ⟨%s9, HS9⟩⟩, Hg⟩
  isplitl [HS6 HS7 HS8 HS9]
  · iexists s6; iexists s7; iexists s8; iexists s9
    isplitr; swap
    · isplitl [HS6]; · iexact HS6
      isplitl [HS7]; · iexact HS7
      isplitl [HS8]; · iexact HS8
      iexact HS9
    ipureintro; intro h; exact absurd h (by decide)
  iexact Hg

/-- After the last point the scratch goes back. -/
theorem held_out (c : Dev nD) : (dats m 0 c).Φ (Fin.last cfg0.N) ⊢ Pipeline.ΦA spec0 c := by
  rw [show (dats m 0 c).Φ (Fin.last cfg0.N) = Held m c (Fin.last cfg0.N).val from rfl, handed_eq]
  unfold Held
  iintro ⟨⟨%s6, %s7, %s8, %s9, %hK, HS6, HS7, HS8, HS9⟩, Hg⟩
  isplitl [HS6 HS7 HS8 HS9]
  · isplitl [HS6]; · iexists _; iexact HS6
    isplitl [HS7]; · iexists _; iexact HS7
    isplitl [HS8]; · iexists _; iexact HS8
    iexists _; iexact HS9
  iexact Hg

/-! ## The run and the frame -/

set_option backward.isDefEq.respectTransparency.types false in
/-- The run: every window's array ends at what the proof data says, every other buffer as the region found it, every
    counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := held_in m) (hout := held_out m)

/-- The frame: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.WordFrame.lean ====
module

public import proofs.«01_k».proof.Defs
public import proofs.«01_k».proof.Proof.Gen.Kernel
public import proofs.«01_k».proof.Proof.Launch

@[expose] public section

set_option maxRecDepth 16384

/-!
# The frame of the kernel as printed

The kernel as printed and the idealized kernel are one program but for the constant `inv_n`: the
first has its word, the second its name. The run of the idealized kernel is proved at every reading
of the floats. Reading the name as its word makes the idealized kernel the printed one, so the frame
of the first is the frame of the second.
-/

noncomputable section

namespace Cert.Kernel.Hand

open Idealize.ShloMosaic Idealize.ShloMosaic.TcCoe Idealize.SL.Sem

/-- A named constant read as the word it is printed with. -/
@[reducible] def wordNamed : Named Bits := ⟨fun _ _ _ w => Scalar.ofBits _ w⟩

attribute [local instance] wordNamed

/-- The two bodies are one program. -/
theorem body_eq : Cert.Kernel.cc0__fused_kernel (F := Bits) = Cert.KernelIdeal.cc0__fused_kernel (F := Bits) := rfl

/-- So are the two body tables. -/
theorem table_eq : Cert.Kernel.defs₀ (F := Bits) = Cert.KernelIdeal.defs₀ (F := Bits) := by
  unfold Cert.Kernel.defs₀ Cert.KernelIdeal.defs₀
  refine congrArg _ ?_
  funext l a
  obtain rfl : l = 0 := Subsingleton.elim _ _
  obtain ⟨t, s⟩ := a
  exact rfl

/-- With the pipeline's bodies added. -/
theorem defs_eq : Cert.Kernel.defs (F := Bits) = Cert.KernelIdeal.defs (F := Bits) :=
  congrArg (Pipeline.defs (Cert.KernelIdeal.pcfgs (F := Bits))) table_eq

/-- And the two entry functions. -/
theorem main_eq : Cert.Kernel.main (F := Bits) = Cert.KernelIdeal.main (F := Bits) := rfl

/-- The frame of the kernel as printed. -/
theorem frame : Cert.quiescent_Kernel := fun m ρ _ => by
  rw [defs_eq, main_eq]
  exact Cert.KernelIdeal.Hand.frame (F := Bits) m ρ

end Cert.Kernel.Hand

end
-- ==== Proof.RefTerm.lean ====
/- The reference program's run: the array it leaves, written as one term in its four arguments. -/
module

public import proofs.«01_k».proof.Defs
public import proofs.«01_k».proof.Proof.Gen.ReferenceIdeal
public import Idealize.ShloMosaic.Lib.Claim

@[expose] public section

set_option maxRecDepth 16384

noncomputable section

namespace Cert.ReferenceIdeal.Hand

open Idealize.ShloMosaic Idealize.SL.Sem Cert.ReferenceIdeal Facts₀ Facts

variable [Facts]

/-- The scalar an encoding stands for, on every (image, channel) pair. -/
def chanConst (b : BitVec 32) : Vec Ideal S2x96x1x1 .f32 :=
  broadcastInDim S2x96x1x1 ![] bcast_S_S2x96x1x1 (constant (F := Ideal) S_ .f32 b)

/-- The sum of an array over the two image axes, kept as a 1 × 1 image. -/
def imageSum (x : Vec Ideal S2x96x384x384 .f32) : Vec Ideal S2x96x1x1 .f32 :=
  broadcastInDim S2x96x1x1 ![0, 1] bcast_S2x96_S2x96x1x1_0_1
    (Host.reduceAdd (F := Ideal) (φ := .f32) x (constant (F := Ideal) S_ .f32 0x00000000#32)
      reducesTo_S2x96x384x384_S2x96_d2_3 h_S_)

/-- A value per (image, channel) pair, repeated over the image. -/
def spread (y : Vec Ideal S2x96x1x1 .f32) : Vec Ideal S2x96x384x384 .f32 :=
  broadcastInDim S2x96x384x384 ![0, 1, 2, 3] bcast_S2x96x1x1_S2x96x384x384_0_1_2_3 y

/-- The mean of each channel's image. -/
def meanOf (x : Vec Ideal S2x96x384x384 .f32) : Vec Ideal S2x96x1x1 .f32 :=
  Host.divf (F := Ideal) (φ := .f32) (imageSum x) (chanConst 0x48100000#32)

/-- The array less its channel means. -/
def centred (x : Vec Ideal S2x96x384x384 .f32) : Vec Ideal S2x96x384x384 .f32 :=
  subf (F := Ideal) (φ := .f32) x (spread (meanOf x))

/-- The number of elements the variance divides by: the image's size less the correction, here 0. -/
def varCount : Vec Ideal S_ .f32 :=
  subf (F := Ideal) (φ := .f32) (constant (F := Ideal) S_ .f32 0x48100000#32)
    (sitofp (F := Ideal) .f32 (constantI S_ 32 0#32))

/-- The variance of each channel's image; not a number should the count not be positive. -/
def varOf (x : Vec Ideal S2x96x384x384 .f32) : Vec Ideal S2x96x1x1 .f32 :=
  select (broadcastInDim S2x96x1x1 ![] bcast_S_S2x96x1x1
      (cmpf (F := Ideal) (φ := .f32) .ogt varCount (constant (F := Ideal) S_ .f32 0x00000000#32)))
    (Host.divf (F := Ideal) (φ := .f32)
      (imageSum (mulf (F := Ideal) (φ := .f32) (centred x) (centred x)))
      (broadcastInDim S2x96x1x1 ![] bcast_S_S2x96x1x1 varCount))
    (chanConst 0x7FC00000#32)

/-- The normalised array. -/
def normed (x : Vec Ideal S2x96x384x384 .f32) : Vec Ideal S2x96x384x384 .f32 :=
  Host.divf (F := Ideal) (φ := .f32) (centred x)
    (spread (Host.sqrt (F := Ideal) (φ := .f32)
      (addf (F := Ideal) (φ := .f32) (varOf x) (chanConst 0x3727C5AC#32))))

/-- The class of each pixel: the argmax over the class axis of the segmentation map. -/
def classOf (s : Vec Ideal S2x35x384x384 .f32) : Vec Ideal S2x384x384 .i32 :=
  fun j => (Host.argReduce (F := Ideal) (φ := .f32) reducer_argmax_f32_i32 s (iotaInDim S2x35x384x384 32 1)
    (constant (F := Ideal) S_ .f32 0xFF800000#32) (constantI S_ 32 0#32)
    reducesTo_S2x35x384x384_S2x384x384_d1 h_S_ j).2

/-- One integer, on every pixel. -/
def pixConst (k : BitVec 32) : Vec Ideal S2x384x384 .i32 :=
  broadcastInDim S2x384x384 ![] bcast_S_S2x384x384 (constantI S_ 32 k)

/-- The row a pixel's class names, a negative class counting from the table's end. -/
def rowOf (i : Vec Ideal S2x384x384 .i32) : Vec Ideal S2x384x384x1 .i32 :=
  broadcastInDim S2x384x384x1 ![0, 1, 2] bcast_S2x384x384_S2x384x384x1_0_1_2
    (select (cmpi .slt i (pixConst 0#32)) (addi i (pixConst 35#32)) i)

/-- Whether a pixel's row is one of the table's 35. -/
def inTable (r : Vec Ideal S2x384x384x1 .i32) : Vec Ideal S2x384x384 .i1 :=
  Host.reduce IntOp.andi
    (andi (cmpi .sge r (broadcastInDim S2x384x384x1 ![] bcast_S_S2x384x384x1 (constantI S_ 32 0#32)))
      (cmpi .sle r (broadcastInDim S2x384x384x1 ![0, 1, 2, 3] bcast_S1x1x1x1_S2x384x384x1_0_1_2_3
        (broadcastInDim S1x1x1x1 ![3] bcast_S1_S1x1x1x1_3 (constantI S1 32 34#32)))))
    (constantI S_ 1 1#1) reducesTo_S2x384x384x1_S2x384x384_d3 h_S_

/-- The table's row at each pixel, channels last; not a number where the row is not in the table. -/
def lookup (g : Vec Ideal S35x96 .f32) (i : Vec Ideal S2x384x384 .i32) : Vec Ideal S2x384x384x96 .f32 :=
  select (broadcastInDim S2x384x384x96 ![0, 1, 2] bcast_S2x384x384_S2x384x384x96_0_1_2 (inTable (rowOf i)))
    (Host.gather gather_S35x96_S2x384x384x1_S2x384x384x96_3_0_n_n_0_3_196 g (rowOf i))
    (broadcastInDim S2x384x384x96 ![] bcast_S_S2x384x384x96 (constant (F := Ideal) S_ .f32 0x7FC00000#32))

/-- The same with the channels second. -/
def lookupFirst (g : Vec Ideal S35x96 .f32) (i : Vec Ideal S2x384x384 .i32) : Vec Ideal S2x96x384x384 .f32 :=
  transpose S2x96x384x384 [0, 3, 1, 2] (lookup g i) transposes_S2x384x384x96_S2x96x384x384_0_3_1_2

/-- The reference's result: the normalised array scaled and shifted by its pixel's class. -/
def result (x : Vec Ideal S2x96x384x384 .f32) (s : Vec Ideal S2x35x384x384 .f32) (g b : Vec Ideal S35x96 .f32) :
    Vec Ideal S2x96x384x384 .f32 :=
  addf (F := Ideal) (φ := .f32) (mulf (F := Ideal) (φ := .f32) (normed x) (lookupFirst g (classOf s)))
    (lookupFirst b (classOf s))

/-- Contents read through a reference to a buffer of their own type are the contents. -/
theorem ofBuf_of (r : Ref sig .tc) (T : BufTy) (h : r.ty = T) (h1 h2) (v : r.ty.Contents (Elt Ideal)) :
    (StableHlo.TRef.mk r h h1 h2).ofBuf v = cast (congrArg (fun T => T.Contents (Elt Ideal)) h) v := by
  subst h; rfl

/-- Contents written through a reference to a buffer of their own type are the contents. -/
theorem toBuf_of (r : Ref sig .tc) (T : BufTy) (h : r.ty = T) (h1 h2) (v : T.Contents (Elt Ideal)) :
    (StableHlo.TRef.mk r h h1 h2).toBuf v = cast (congrArg (fun T => T.Contents (Elt Ideal)) h.symm) v := by
  subst h; rfl

/-- `classOf`, folded. -/
theorem classOf_eq (s : Vec Ideal S2x35x384x384 .f32) :
    (fun j => (Host.argReduce (F := Ideal) (φ := .f32) reducer_argmax_f32_i32 s (iotaInDim S2x35x384x384 32 1)
    (constant (F := Ideal) S_ .f32 0xFF800000#32) (constantI S_ 32 0#32)
    reducesTo_S2x35x384x384_S2x384x384_d1 h_S_ j).2) = classOf s := rfl

set_option maxHeartbeats 3200000 in
/-- The reference runs, leaves its arguments as they were, and its result is `result` of them. -/
theorem run (m : (ℓ : Loc nD τ sig) → Buf (Elt Ideal) ℓ) (g : Dev nD → PrngReg) :
    θ_run (defs (F := Ideal)) (onTc (τ := τ) (main (F := Ideal))) ⟨m, fun _ => 0, g⟩ (fun r =>
      ∀ c : Dev nD,
        r.2.mem ((c.tc : Thread nD τ).loc main_v18)
          = result (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) := by
  hlo_run
  simp only [StableHlo.TRef.ofBuf_toBuf]
  simp only [StableHlo.TRef.of, ofBuf_of, toBuf_of, cast_eq]
  simp only [result, lookupFirst, lookup, inTable, rowOf, pixConst, normed, varOf, varCount,
    centred, meanOf, spread, imageSum, chanConst]
  simp only [classOf_eq]

/-- The reference runs, leaves its arguments as they were, and every semaphore counter at zero: it declares none. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run (defs (F := Ideal)) _ _).mono
    (fun r h => ⟨fun c => (h c).2, sem_eq_zero_of_no_sems (by decide) r.2⟩) (run m g)

end Cert.ReferenceIdeal.Hand

end
-- ==== Proof.RefRead.lean ====
/- The reference's class of a pixel and its table lookup, read at an index: the class is the first
   one attaining the greatest score, and the lookup reads the table's row of that class. -/
module

public import proofs.«01_k».proof.Proof.RefTerm
public import Idealize.ShloMosaic.Lib.Pointwise

@[expose] public section

set_option maxRecDepth 16384

noncomputable section

namespace Cert.ReferenceIdeal.Hand

open Idealize.ShloMosaic Cert.ReferenceIdeal Facts₀ Facts

/-- `k` is the first of the 35 classes whose score is the greatest. -/
def IsFirstMax (f : Fin 35 → EReal) (k : Fin 35) : Prop := ∀ c, f c < f k ∨ (f c = f k ∧ k ≤ c)

/-- Some class is the first with the greatest score. -/
theorem exists_firstMax (f : Fin 35 → EReal) : ∃ k, IsFirstMax f k := by
  obtain ⟨t, -, ht⟩ := Finset.exists_max_image Finset.univ f ⟨0, Finset.mem_univ 0⟩
  have hne : (Finset.univ.filter fun c => f c = f t).Nonempty := ⟨t, by simp⟩
  refine ⟨(Finset.univ.filter fun c => f c = f t).min' hne, fun c => ?_⟩
  have hk : f ((Finset.univ.filter fun c => f c = f t).min' hne) = f t :=
    (Finset.mem_filter.mp (Finset.min'_mem _ hne)).2
  rw [hk]
  rcases (ht c (Finset.mem_univ c)).lt_or_eq with h | h
  · exact Or.inl h
  · exact Or.inr ⟨h, Finset.min'_le _ _ (by simp [h])⟩

/-- `a` is taken over `b` by an argmax: a greater value, or an equal one at a class no later. -/
def Beats (a b : EReal × BitVec 32) : Prop := b.1 < a.1 ∨ (b.1 = a.1 ∧ a.2.toInt ≤ b.2.toInt)

/-- Beating is transitive. -/
theorem Beats.trans {a b c : EReal × BitVec 32} (h : Beats a b) (k : Beats b c) : Beats a c := by
  unfold Beats at *
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- A pair beats itself. -/
theorem Beats.refl (a : EReal × BitVec 32) : Beats a a := Or.inr ⟨rfl, le_rfl⟩

section Facts
variable [Facts]

/-- One step of the argmax keeps one of its two pairs, the one that beats the other. -/
theorem step_cases (a b : EReal × BitVec 32) :
    (reducer_argmax_f32_i32 (F := Ideal) a b = a ∧ Beats a b)
      ∨ (reducer_argmax_f32_i32 (F := Ideal) a b = b ∧ Beats b a) := by
  obtain ⟨x, i⟩ := a
  obtain ⟨y, j⟩ := b
  unfold reducer_argmax_f32_i32 Beats
  rcases lt_trichotomy x y with h | h | h
  · have h1 : ¬ y < x := not_lt.mpr h.le
    have h2 : x ≠ y := h.ne
    right
    pointwise []
    simp [h, h1, h2, Scalar.select, IntOp.ori, IntOp.andi]
  · subst h
    by_cases hij : i.toInt < j.toInt
    · left
      pointwise []
      have hs : i.slt j = true := BitVec.slt_iff_toInt_lt.mpr hij
      simp [Scalar.select, IntOp.ori, IntOp.andi, IntOp.cmpi, hs, hij.le]
    · right
      pointwise []
      have hs : i.slt j = false := by
        rw [← Bool.not_eq_true, BitVec.slt_iff_toInt_lt]; exact hij
      simp [Scalar.select, IntOp.ori, IntOp.andi, IntOp.cmpi, hs, not_lt.mp hij]
  · have h1 : ¬ x < y := not_lt.mpr h.le
    have h2 : x ≠ y := h.ne'
    left
    pointwise []
    simp [h, h1, h2, Scalar.select, IntOp.ori, IntOp.andi]

/-- The argmax fold ends on one of its pairs, and that pair beats them all. -/
theorem fold_beats (L : List (EReal × BitVec 32)) (r : EReal × BitVec 32) :
    L.foldl (reducer_argmax_f32_i32 (F := Ideal)) r ∈ r :: L
      ∧ ∀ p ∈ r :: L, Beats (L.foldl (reducer_argmax_f32_i32 (F := Ideal)) r) p := by
  induction L generalizing r with
  | nil => simpa using Beats.refl r
  | cons q L ih =>
    obtain ⟨hm, hb⟩ := ih (reducer_argmax_f32_i32 (F := Ideal) r q)
    rw [List.foldl_cons]
    have hs : Beats (L.foldl (reducer_argmax_f32_i32 (F := Ideal)) (reducer_argmax_f32_i32 (F := Ideal) r q))
        (reducer_argmax_f32_i32 (F := Ideal) r q) := hb _ List.mem_cons_self
    rcases step_cases r q with ⟨e, k⟩ | ⟨e, k⟩ <;> rw [e] at hm hb hs ⊢
    · refine ⟨?_, fun p hp => ?_⟩
      · rcases List.mem_cons.mp hm with h | h
        · rw [h]; exact List.mem_cons_self
        · exact List.mem_cons_of_mem _ (List.mem_cons_of_mem _ h)
      · rcases List.mem_cons.mp hp with h | h
        · rw [h]; exact hs
        · rcases List.mem_cons.mp h with h | h
          · rw [h]; exact hs.trans k
          · exact hb p (List.mem_cons_of_mem _ h)
    · refine ⟨List.mem_cons_of_mem _ hm, fun p hp => ?_⟩
      rcases List.mem_cons.mp hp with h | h
      · rw [h]; exact hs.trans k
      · exact hb p h

/-- A class number as a signed word is itself. -/
theorem toInt_class (k : Fin 35) : (BitVec.ofNat 32 k.val).toInt = (k.val : Int) := by
  revert k; decide

/-- The argmax fold over the 35 (score, class) pairs, in any order, ends on the first class with the greatest score. -/
theorem fold_class (f : Fin 35 → EReal) (L : List (EReal × BitVec 32))
    (hL : ∀ p, p ∈ L ↔ ∃ c : Fin 35, p = (f c, BitVec.ofNat 32 c.val)) (k : Fin 35) (hk : IsFirstMax f k) :
    (L.foldl (reducer_argmax_f32_i32 (F := Ideal)) (⊥, 0#32)).2 = BitVec.ofNat 32 k.val := by
  obtain ⟨hm, hb⟩ := fold_beats L (⊥, 0#32)
  generalize L.foldl (reducer_argmax_f32_i32 (F := Ideal)) (⊥, 0#32) = z at hm hb
  have hbk : Beats z (f k, BitVec.ofNat 32 k.val) := hb _ (List.mem_cons_of_mem _ ((hL _).mpr ⟨k, rfl⟩))
  rcases List.mem_cons.mp hm with rfl | hz
  · rcases hbk with h | ⟨h, -⟩
    · exact absurd h not_lt_bot
    · rcases hk 0 with h0 | ⟨-, h0⟩
      · exact absurd (lt_of_lt_of_eq h0 h) not_lt_bot
      · have : k = 0 := Fin.le_zero_iff.mp h0
        rw [this]; rfl
  · obtain ⟨c, rfl⟩ := (hL z).mp hz
    rcases hbk with h | ⟨h, h'⟩
    · rcases hk c with hc | ⟨hc, -⟩
      · exact absurd (h.trans hc) (lt_irrefl _)
      · exact absurd h (hc ▸ lt_irrefl _)
    · rcases hk c with hc | ⟨-, hc⟩
      · exact absurd hc (not_lt.mpr (le_of_eq h))
      · simp only [toInt_class] at h'
        have : c = k := le_antisymm (Fin.le_def.mpr (by exact_mod_cast h')) hc
        rw [this]

/-- The encoding of negative infinity. -/
theorem ofBits_bot : Ideal.ofBits .f32 0xFF800000#32 = (⊥ : EReal) := by
  simp [Ideal.ofBits, Ideal.ieee]

/-- The class of a pixel as the fold over its (score, class) pairs. -/
theorem classOf_fold (s : Vec Ideal S2x35x384x384 .f32) (j : S2x384x384.Idx) :
    classOf s j = ((Host.argReduceFiber (α := EReal) s (iotaInDim S2x35x384x384 32 1)
      reducesTo_S2x35x384x384_S2x384x384_d1 j).foldl (reducer_argmax_f32_i32 (F := Ideal))
        (Ideal.ofBits .f32 0xFF800000#32, 0#32)).2 := by
  have h1 := Ideal.argReduce_eq_reduce2 (reducer_argmax_f32_i32 (F := Ideal)) s (iotaInDim S2x35x384x384 32 1)
    (constant (F := Ideal) S_ .f32 0xFF800000#32) (constantI S_ 32 0#32)
    reducesTo_S2x35x384x384_S2x384x384_d1 h_S_
  have h2 := Host.reduce2_eq_foldl_fiber (reducer_argmax_f32_i32 (F := Ideal)) s (iotaInDim S2x35x384x384 32 1)
    (constant (F := Ideal) S_ .f32 0xFF800000#32) (constantI S_ 32 0#32)
    reducesTo_S2x35x384x384_S2x384x384_d1 h_S_ j
  exact (congrFun (classOf_eq s).symm j).trans (congrArg Prod.snd ((congrFun h1 j).trans h2))

/-- The pairs that fold runs over are the pixel's 35 scores with their classes. -/
theorem mem_fiber (s : Vec Ideal S2x35x384x384 .f32) (b : Fin 2) (h w : Fin 384) (p : EReal × BitVec 32) :
    p ∈ Host.argReduceFiber (α := EReal) s (iotaInDim S2x35x384x384 32 1)
      reducesTo_S2x35x384x384_S2x384x384_d1 (ix3 b h w)
      ↔ ∃ c : Fin 35, p = (s (ix4 b c h w), BitVec.ofNat 32 c.val) := by
  unfold Host.argReduceFiber
  rw [List.mem_map]
  constructor
  · rintro ⟨n, hn, rfl⟩
    have hd := of_decide_eq_true (List.mem_filter.mp hn).2
    obtain ⟨c, hc⟩ := (reducesTo_S2x35x384x384_S2x384x384_d1.fiber_r4_a1 _ _).mp hd
    refine ⟨c, ?_⟩
    rw [← hc]
    rfl
  · rintro ⟨c, rfl⟩
    refine ⟨S2x35x384x384.rowMajor (ix4 b c h w), List.mem_filter.mpr ⟨List.mem_finRange _, decide_eq_true ?_⟩, ?_⟩
    · rw [Equiv.symm_apply_apply]
      exact (reducesTo_S2x35x384x384_S2x384x384_d1.fiber_r4_a1 _ _).mpr ⟨c, rfl⟩
    · rw [Equiv.symm_apply_apply]
      rfl

/-- The class of a pixel is the first one with the greatest score. -/
theorem classOf_apply (s : Vec Ideal S2x35x384x384 .f32) (b : Fin 2) (h w : Fin 384) (k : Fin 35)
    (hk : IsFirstMax (fun c => s (ix4 b c h w)) k) :
    classOf s (ix3 b h w) = BitVec.ofNat 32 k.val := by
  rw [classOf_fold, ofBits_bot]
  exact fold_class _ _ (mem_fiber s b h w) k hk

/-- A class number is not negative, is at most 34, and is itself once clamped to the table. -/
theorem class_checks (k : Fin 35) :
    IntOp.cmpi .slt (BitVec.ofNat 32 k.val) 0#32 = 0#1 ∧ IntOp.cmpi .sge (BitVec.ofNat 32 k.val) 0#32 = 1#1
      ∧ IntOp.cmpi .sle (BitVec.ofNat 32 k.val) 34#32 = 1#1 := by
  revert k; decide

/-- The table's gather at an index: the row it starts at, read signed and clamped to the table. -/
theorem gather_apply (g : Vec Ideal S35x96 .f32) (r : Vec Ideal S2x384x384x1 .i32) (b : Fin 2) (c : Fin 96)
    (h w : Fin 384) (k : Fin 35) (hr : r (ix4 b h w 0) = BitVec.ofNat 32 k.val) :
    Host.gather gather_S35x96_S2x384x384x1_S2x384x384x96_3_0_n_n_0_3_196 g r (ix4 b h w c) = g (ix2 k c) := by
  unfold Host.gather
  refine congrArg g (funext fun a => Fin.ext ?_)
  show GatherDims.start _ _ _ a + GatherDims.batchCoord _ _ a + GatherDims.offCoord _ _ a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ gather_S35x96_S2x384x384x1_S2x384x384x96_3_0_n_n_0_3_196.startIndexMap
      from List.mem_singleton.mpr rfl)]
    have hi : gather_S35x96_S2x384x384x1_S2x384x384x96_3_0_n_n_0_3_196.siIdx (ix4 b h w c)
        ⟨List.idxOf (0 : Fin 2) gather_S35x96_S2x384x384x1_S2x384x384x96_3_0_n_n_0_3_196.startIndexMap,
          List.idxOf_lt_length_iff.2 (List.mem_singleton.mpr rfl)⟩ = ix4 b h w 0 := by
      funext d
      refine Fin.ext ?_
      match d with
      | ⟨0, _⟩ => rfl
      | ⟨1, _⟩ => rfl
      | ⟨2, _⟩ => rfl
      | ⟨3, _⟩ => rfl
    rw [hi, hr, toInt_class]
    exact Nat.min_eq_left (Nat.le_of_lt_succ k.isLt)
  · have hs : GatherDims.start gather_S35x96_S2x384x384x1_S2x384x384x96_3_0_n_n_0_3_196 (ix4 b h w c) r (1 : Fin 2)
        = 0 := by
      unfold GatherDims.start
      exact dif_neg (show (1 : Fin 2) ∉ ([0] : List (Fin 2)) by decide)
    rw [hs, Nat.zero_add]
    rfl

/-- The table's row at a pixel of class `k` is row `k`. -/
theorem lookup_apply (g : Vec Ideal S35x96 .f32) (i : Vec Ideal S2x384x384 .i32) (b : Fin 2) (c : Fin 96)
    (h w : Fin 384) (k : Fin 35) (hk : i (ix3 b h w) = BitVec.ofNat 32 k.val) :
    lookupFirst g i (ix4 b c h w) = g (ix2 k c) := by
  obtain ⟨h1, h2, h3⟩ := class_checks k
  have hr : rowOf i (ix4 b h w 0) = BitVec.ofNat 32 k.val := by
    pointwise [rowOf, pixConst]
    rw [hk, h1]
    rfl
  have ht : inTable (rowOf i) (ix3 b h w) = 1#1 := by
    pointwise [inTable]
    rw [Finset.univ_unique, Finset.fold_singleton]
    show IntOp.andi (IntOp.andi (IntOp.cmpi .sge (rowOf i (ix4 b h w 0)) 0#32)
      (IntOp.cmpi .sle (rowOf i (ix4 b h w 0)) 34#32)) 1#1 = 1#1
    rw [hr, h2, h3]
    rfl
  have hl : lookupFirst g i (ix4 b c h w)
      = Scalar.select (inTable (rowOf i) (ix3 b h w))
        (Host.gather gather_S35x96_S2x384x384x1_S2x384x384x96_3_0_n_n_0_3_196 g (rowOf i) (ix4 b h w c))
        (Ideal.ofBits .f32 0x7FC00000#32) := by
    pointwise [lookupFirst, lookup]
  rw [hl, ht, gather_apply g _ b c h w k hr]
  rfl

end Facts

end Cert.ReferenceIdeal.Hand

end
-- ==== Proof.Moments.lean ====
/- The moments of one channel's image over the reals, the literals both programs use, and the two ways
   to scale by the standard deviation. -/
module

public import Idealize.ShloMosaic.Lib.Pointwise

@[expose] public section

noncomputable section

namespace Cert.Moments

open Idealize.ShloMosaic

/-- The sum of an image. -/
def total (X : Fin 384 → Fin 384 → ℝ) : ℝ := ∑ h, ∑ w, X h w

/-- The mean of an image. -/
def mean (X : Fin 384 → Fin 384 → ℝ) : ℝ := total X * (1 / 147456)

/-- The variance of an image: the mean square of its distance from the mean. -/
def var (X : Fin 384 → Fin 384 → ℝ) : ℝ :=
  total (fun h w => (X h w - mean X) * (X h w - mean X)) * (1 / 147456)

/-- The constant both programs add to the variance. -/
def eps : ℝ := 10995116 / 1099511627776

/-- The reciprocal of the standard deviation, `eps` under the root. -/
def scale (X : Fin 384 → Fin 384 → ℝ) : ℝ := (Real.sqrt (var X + eps))⁻¹

/-- The sum of a real image, taken among the extended reals. -/
theorem coe_total (X : Fin 384 → Fin 384 → ℝ) :
    (∑ h, ∑ w, ((X h w : ℝ) : EReal)) = ((total X : ℝ) : EReal) := by
  unfold total
  have coe_sum : ∀ f : Fin 384 → ℝ, (∑ k, ((f k : ℝ) : EReal)) = ((∑ k, f k : ℝ) : EReal) := fun f =>
    (map_sum (⟨⟨fun r : ℝ => (r : EReal), EReal.coe_zero⟩, EReal.coe_add⟩ : ℝ →+ EReal) f Finset.univ).symm
  simp only [coe_sum]

/-- The variance as the mean square less the square of the mean. -/
theorem var_eq (X : Fin 384 → Fin 384 → ℝ) :
    total (fun h w => X h w * X h w) * (1 / 147456) - mean X * mean X = var X := by
  have e : total (fun h w => (X h w - mean X) * (X h w - mean X))
      = total (fun h w => X h w * X h w) - 2 * mean X * total X + 147456 * (mean X * mean X) := by
    have h1 : ∀ h w, (X h w - mean X) * (X h w - mean X)
        = X h w * X h w - 2 * mean X * X h w + mean X * mean X := fun h w => by ring
    unfold total
    simp only [h1, Finset.sum_add_distrib, Finset.sum_sub_distrib, ← Finset.mul_sum, Finset.sum_const,
      Finset.card_univ, Fintype.card_fin, nsmul_eq_mul]
    norm_num
    ring
  unfold var
  rw [e]
  have : total X = 147456 * mean X := by unfold mean; ring
  rw [this]
  ring

/-- The variance is not negative. -/
theorem var_nonneg (X : Fin 384 → Fin 384 → ℝ) : 0 ≤ var X :=
  mul_nonneg (Finset.sum_nonneg fun _ _ => Finset.sum_nonneg fun _ _ => mul_self_nonneg _) (by norm_num)

/-- With `eps` added it is positive. -/
theorem var_eps_pos (X : Fin 384 → Fin 384 → ℝ) : 0 < var X + eps :=
  add_pos_of_nonneg_of_pos (var_nonneg X) (by norm_num [eps])

/-- The encoding of zero. -/
theorem ofBits_zero : Ideal.ofBits .f32 0x00000000#32 = (0 : EReal) := by
  simp [Ideal.ofBits, Ideal.ieee]

/-- The encoding of the number of elements in an image. -/
theorem ofBits_count : Ideal.ofBits .f32 0x48100000#32 = ((147456 : ℝ) : EReal) := by
  simp [Ideal.ofBits, Ideal.ieee, -EReal.coe_mul]; norm_num

/-- The encoding of `eps`. -/
theorem ofBits_eps : Ideal.ofBits .f32 0x3727C5AC#32 = ((eps : ℝ) : EReal) := by
  unfold eps
  simp [Ideal.ofBits, Ideal.ieee, -EReal.coe_mul]; norm_num

/-- The reciprocal root of the variance with `eps` added. -/
theorem rsqrt_var (X : Fin 384 → Fin 384 → ℝ) :
    Ideal.rsqrt ((var X + eps : ℝ) : EReal) = ((scale X : ℝ) : EReal) := by
  rw [Ideal.rsqrt_coe, if_neg (not_lt.mpr (var_eps_pos X).le), if_neg (var_eps_pos X).ne']
  rfl

/-- Dividing by the root of the variance with `eps` added. -/
theorem div_sqrt_var (X : Fin 384 → Fin 384 → ℝ) (a : EReal) :
    Ideal.div a (Ideal.sqrt ((var X + eps : ℝ) : EReal)) = a * ((scale X : ℝ) : EReal) := by
  rw [Ideal.sqrt_coe, if_neg (not_lt.mpr (var_eps_pos X).le), Ideal.div_coe (Real.sqrt_pos.mpr (var_eps_pos X)).ne',
    one_div]
  rfl

end Cert.Moments

end
-- ==== Proof.KernelRead.lean ====
/- The kernel's payloads read at an index: the partial sums of a block, the class of a pixel as a
   minimum over the classes that reach the greatest score, and the normalised block. -/
module

public import proofs.«01_k».proof.Proof.Launch
public import proofs.«01_k».proof.Proof.RefRead
public import proofs.«01_k».proof.Proof.Moments
public import Idealize.ShloMosaic.Lib.Pointwise

@[expose] public section

set_option maxRecDepth 16384

noncomputable section

namespace Cert.KernelIdeal.Hand

open Idealize.ShloMosaic Cert.KernelIdeal.Gen
open Cert.ReferenceIdeal.Hand (IsFirstMax ofBits_bot)
open Cert.Moments

/-- A block without its leading axis. -/
theorem pay2_apply (v : Vec Ideal S1x96x32x384 .f32) (ch : Fin 96) (r : Fin 32) (w : Fin 384) :
    k0_pay2 v (ix3 ch r w) = v (ix4 0 ch r w) := by
  pointwise [k0_pay2]

/-- The sum of a channel of a block. -/
theorem pay3_apply (v : Vec Ideal S1x96x32x384 .f32) (ch : Fin 96) :
    k0_pay3 v (ix3 ch 0 0) = ∑ r : Fin 32, ∑ w : Fin 384, v (ix4 0 ch r w) := by
  pointwise [k0_pay3, k0_pay2]

/-- The sum of the squares of a channel of a block. -/
theorem pay4_apply (v : Vec Ideal S1x96x32x384 .f32) (ch : Fin 96) :
    k0_pay4 v (ix3 ch 0 0) = ∑ r : Fin 32, ∑ w : Fin 384, v (ix4 0 ch r w) * v (ix4 0 ch r w) := by
  pointwise [k0_pay4, k0_pay2]

/-- The first sums. -/
theorem pay5_apply (v : Vec Ideal S1x96x32x384 .f32) (ch : Fin 96) :
    k0_pay5 v (ix3 ch 0 0) = ∑ r : Fin 32, ∑ w : Fin 384, v (ix4 0 ch r w) := by
  rw [← pay3_apply]
  pointwise [k0_pay5]

/-- The first sums of squares. -/
theorem pay6_apply (v : Vec Ideal S1x96x32x384 .f32) (ch : Fin 96) :
    k0_pay6 v (ix3 ch 0 0) = ∑ r : Fin 32, ∑ w : Fin 384, v (ix4 0 ch r w) * v (ix4 0 ch r w) := by
  rw [← pay4_apply]
  pointwise [k0_pay6]

/-- The sums with a block's added. -/
theorem pay7_apply (v : Vec Ideal S1x96x32x384 .f32) (a : Vec Ideal S96x1x1 .f32) (ch : Fin 96) :
    k0_pay7 v a (ix3 ch 0 0) = a (ix3 ch 0 0) + ∑ r : Fin 32, ∑ w : Fin 384, v (ix4 0 ch r w) := by
  rw [← pay3_apply]
  pointwise [k0_pay7]

/-- The sums of squares with a block's added. -/
theorem pay8_apply (v : Vec Ideal S1x96x32x384 .f32) (a : Vec Ideal S96x1x1 .f32) (ch : Fin 96) :
    k0_pay8 v a (ix3 ch 0 0) = a (ix3 ch 0 0) + ∑ r : Fin 32, ∑ w : Fin 384, v (ix4 0 ch r w) * v (ix4 0 ch r w) := by
  rw [← pay4_apply]
  pointwise [k0_pay8]

/-- The copy kept of a block. -/
theorem pay9_apply (v : Vec Ideal S1x96x32x384 .f32) (ch : Fin 96) (r : Fin 32) (w : Fin 384) :
    k0_pay9 v (ix3 ch r w) = v (ix4 0 ch r w) := by
  pointwise [k0_pay9, k0_pay2]

/-- Of the words that are a class number where the score is the greatest and 35 elsewhere, the least. -/
def leastClass (f : Fin 35 → EReal) : BitVec 32 :=
  Finset.fold IntOp.minsi 2147483647#32
    (fun c => if f c = Finset.fold max ⊥ f Finset.univ then BitVec.ofNat 32 c.val else 35#32) Finset.univ

/-- A fold whose every word, and whose start, `z` absorbs is absorbed by `z`. -/
theorem absorb_fold (z i : BitVec 32) (g : Fin 35 → BitVec 32) (hi : IntOp.minsi z i = z)
    (T : Finset (Fin 35)) (hg : ∀ c ∈ T, IntOp.minsi z (g c) = z) : IntOp.minsi z (T.fold IntOp.minsi i g) = z := by
  induction T using Finset.induction with
  | empty => exact hi
  | insert a T ha ih =>
    rw [Finset.fold_insert ha, ← Std.Associative.assoc (op := IntOp.minsi), hg a (Finset.mem_insert_self _ _)]
    exact ih fun c hc => hg c (Finset.mem_insert_of_mem hc)

/-- A class number is below the start of the fold and below 35. -/
theorem minsi_class (k : Fin 35) : IntOp.minsi (BitVec.ofNat 32 k.val) 2147483647#32 = BitVec.ofNat 32 k.val
    ∧ IntOp.minsi (BitVec.ofNat 32 k.val) 35#32 = BitVec.ofNat 32 k.val := by
  revert k; decide

/-- Of two class numbers the smaller is kept. -/
theorem minsi_classes : ∀ k c : Fin 35, k ≤ c →
    IntOp.minsi (BitVec.ofNat 32 k.val) (BitVec.ofNat 32 c.val) = BitVec.ofNat 32 k.val := by
  decide +kernel

/-- The greatest score is the one of the first class that has it. -/
theorem fold_max (f : Fin 35 → EReal) (k : Fin 35) (hk : IsFirstMax f k) :
    Finset.fold max ⊥ f Finset.univ = f k := by
  refine le_antisymm ?_ ?_
  · refine (Finset.fold_max_le (f k)).mpr ⟨bot_le, fun c _ => ?_⟩
    rcases hk c with h | ⟨h, -⟩
    · exact h.le
    · exact h.le
  · exact (Finset.le_fold_max (f k)).mpr (Or.inr ⟨k, Finset.mem_univ k, le_rfl⟩)

/-- The least of those words is the first class with the greatest score. -/
theorem leastClass_eq (f : Fin 35 → EReal) (k : Fin 35) (hk : IsFirstMax f k) :
    leastClass f = BitVec.ofNat 32 k.val := by
  unfold leastClass
  rw [fold_max f k hk, ← Finset.insert_erase (Finset.mem_univ k), Finset.fold_insert (Finset.notMem_erase _ _), if_pos rfl]
  refine absorb_fold _ _ _ (minsi_class k).1 _ fun c _ => ?_
  split
  · rename_i h
    rcases hk c with h' | ⟨-, h'⟩
    · exact absurd h h'.ne
    · exact minsi_classes k c h'
  · exact (minsi_class k).2

/-- The class index of pixel `(r, w)` of a block, where the kernel keeps it. -/
theorem pay10_apply (v : Vec Ideal S1x35x32x384 .f32) (r : Fin 32) (w : Fin 384) (a : Fin 8) (p : Fin 1536)
    (h : a.val * 1536 + p.val = r.val * 384 + w.val) :
    k0_pay10 v (ix3 0 a p) = leastClass (fun c => v (ix4 0 c r w)) := by
  pointwise [k0_pay10]
  unfold leastClass
  rw [ofBits_bot]
  have hr : (⟨a.val * 4 + p.val / 384, by omega⟩ : Fin 32) = r := Fin.ext (by show a.val * 4 + p.val / 384 = r.val; omega)
  have hw : (⟨p.val % 384, by omega⟩ : Fin 384) = w := Fin.ext (by show p.val % 384 = w.val; omega)
  rw [hr, hw]

/-- The named constant is the reciprocal of the image's size. -/
theorem inv_n : Named.named (F := Ideal) (φ := .f32) κ "inv_n" 0x36E38E39#32 = ((1 / 147456 : ℝ) : EReal) :=
  IdealRules.named_const.ideal_named_scalar _ _ _ _ rfl

/-- The widened bit of a comparison with a class number, as a float, is one at that class and zero elsewhere. -/
theorem hot_class : ∀ c k : Fin 35, (BitVec.setWidth 32 (IntOp.cmpi .eq (BitVec.ofNat 32 c.val) (BitVec.ofNat 32 k.val))).toInt
    = if c = k then 1 else 0 := by
  decide +kernel

/-- A row of the table against the one-hot column of class `k` is its entry at `k`. -/
theorem sum_hot (T : Fin 35 → EReal) (k : Fin 35) :
    ∑ c : Fin 35, T c * FloatOps.sitofp (F := Ideal) .f32
      (BitVec.setWidth 32 (IntOp.cmpi .eq (BitVec.ofNat 32 c.val) (BitVec.ofNat 32 k.val))) = T k := by
  rw [Finset.sum_eq_single k]
  · show T k * (((BitVec.setWidth 32 (IntOp.cmpi .eq (BitVec.ofNat 32 k.val) (BitVec.ofNat 32 k.val))).toInt : ℝ) : EReal) = T k
    rw [hot_class, if_pos rfl]
    simp
  · intro c _ hc
    show T c * (((BitVec.setWidth 32 (IntOp.cmpi .eq (BitVec.ofNat 32 c.val) (BitVec.ofNat 32 k.val))).toInt : ℝ) : EReal) = 0
    rw [hot_class, if_neg hc]
    simp
  · exact fun h => absurd (Finset.mem_univ k) h

/-- The normalised block at a pixel of class `k`, from the sums of the channel over the whole image `X`. -/
theorem pay11_apply (v8 : Vec Ideal S1x8x1536 .i32) (v16 : Vec Ideal S96x35 .f32) (v20 v23 : Vec Ideal S96x1x1 .f32)
    (v33 : Vec Ideal S96x32x384 .bf16) (ch : Fin 96) (r : Fin 32) (w : Fin 384) (k : Fin 35) (X : Fin 384 → Fin 384 → ℝ)
    (h8 : ∀ (a : Fin 8) (p : Fin 1536), a.val * 1536 + p.val = r.val * 384 + w.val → v8 (ix3 0 a p) = BitVec.ofNat 32 k.val)
    (h20 : v20 (ix3 ch 0 0) = ((total X : ℝ) : EReal))
    (h23 : v23 (ix3 ch 0 0) = ((total (fun h w => X h w * X h w) : ℝ) : EReal)) :
    k0_pay11 v8 v16 v20 v23 v33 (ix4 0 ch r w)
      = (v33 (ix3 ch r w) - ((mean X : ℝ) : EReal)) * (((scale X : ℝ) : EReal) * v16 (ix2 ch k)) := by
  have e : k0_pay11 v8 v16 v20 v23 v33 (ix4 0 ch r w)
      = (v33 (ix3 ch r w) - v20 (ix3 ch 0 0) * Named.named (F := Ideal) (φ := .f32) κ "inv_n" 0x36E38E39#32) *
        (Ideal.rsqrt (v23 (ix3 ch 0 0) * Named.named (F := Ideal) (φ := .f32) κ "inv_n" 0x36E38E39#32 -
              v20 (ix3 ch 0 0) * Named.named (F := Ideal) (φ := .f32) κ "inv_n" 0x36E38E39#32 *
                (v20 (ix3 ch 0 0) * Named.named (F := Ideal) (φ := .f32) κ "inv_n" 0x36E38E39#32) +
            Ideal.ofBits FTy.f32 0x3727C5AC#32) *
        ∑ x : Fin 35, v16 (ix2 ch x) * FloatOps.sitofp (F := Ideal) .f32
          (BitVec.setWidth 32 (IntOp.cmpi .eq (BitVec.ofNat 32 x.val)
            (v8 (ix3 0 ⟨(r.val * 384 + w.val) / 1536, by omega⟩ ⟨(r.val * 384 + w.val) % 1536, by omega⟩))))) := by
    pointwise [k0_pay11]
  have hm : ((total X : ℝ) : EReal) * ((1 / 147456 : ℝ) : EReal) = ((mean X : ℝ) : EReal) := (EReal.coe_mul _ _).symm
  rw [e, h8 _ _ (by show (r.val * 384 + w.val) / 1536 * 1536 + (r.val * 384 + w.val) % 1536 = _; omega), sum_hot, h20, h23,
    inv_n, ofBits_eps, hm, ← EReal.coe_mul, ← EReal.coe_mul, ← EReal.coe_sub, ← EReal.coe_add, var_eq, rsqrt_var]

/-- Twelve bands of 32 rows are an image. -/
theorem sum_bands (f : Fin 384 → EReal) :
    ∑ h : Fin 384, f h = ∑ k : Fin 12, ∑ r : Fin 32, f ⟨32 * k.val + r.val, by omega⟩ := by
  rw [Fin.sum_univ_tiles 12 32 rfl f]
  refine Finset.sum_congr rfl fun k _ => Finset.sum_congr rfl fun r _ => congrArg f (Fin.ext ?_)
  show k.val * 32 + r.val = 32 * k.val + r.val
  omega

end Cert.KernelIdeal.Hand

end
-- ==== Proof.RefNorm.lean ====
/- The reference's result read at an index, for a finite array and an all-zero shift table. -/
module

public import proofs.«01_k».proof.Proof.RefRead
public import proofs.«01_k».proof.Proof.Moments

@[expose] public section

set_option maxRecDepth 16384

noncomputable section

namespace Cert.ReferenceIdeal.Hand

open Idealize.ShloMosaic Cert.ReferenceIdeal Facts₀ Facts Cert.Moments

variable [Facts]

/-- The sum over the image axes, at an index. -/
theorem imageSum_apply (x : Vec Ideal S2x96x384x384 .f32) (b : Fin 2) (c : Fin 96) :
    imageSum x (ix4 b c 0 0) = ∑ h : Fin 384, ∑ w : Fin 384, x (ix4 b c h w) := by
  pointwise [imageSum]

/-- A scalar on every channel, at an index. -/
theorem chanConst_apply (k : BitVec 32) (b : Fin 2) (c : Fin 96) :
    chanConst k (ix4 b c 0 0) = Ideal.ofBits .f32 k := by
  pointwise [chanConst]

/-- A channel's value over its image, at an index. -/
theorem spread_apply (y : Vec Ideal S2x96x1x1 .f32) (b : Fin 2) (c : Fin 96) (h w : Fin 384) :
    spread y (ix4 b c h w) = y (ix4 b c 0 0) := by
  pointwise [spread]

/-- The count the variance divides by is the image's size. -/
theorem varCount_apply : varCount ix0 = ((147456 : ℝ) : EReal) := by
  pointwise [varCount]
  rw [ofBits_count]
  have hz : FloatOps.sitofp (F := Ideal) .f32 0#32 = (0 : EReal) := by
    show (((0#32 : BitVec 32).toInt : ℝ) : EReal) = 0
    simp
  rw [hz, sub_zero]

section Finite
variable (x : Vec Ideal S2x96x384x384 .f32) (X : Fin 2 → Fin 96 → Fin 384 → Fin 384 → ℝ)
  (hx : ∀ b c h w, x (ix4 b c h w) = ((X b c h w : ℝ) : EReal))
include hx

/-- The mean of a channel's image. -/
theorem meanOf_apply (b : Fin 2) (c : Fin 96) : meanOf x (ix4 b c 0 0) = ((mean (X b c) : ℝ) : EReal) := by
  have e : meanOf x (ix4 b c 0 0) = Ideal.div (imageSum x (ix4 b c 0 0)) (chanConst 0x48100000#32 (ix4 b c 0 0)) := by
    pointwise [meanOf]
  rw [e, imageSum_apply, chanConst_apply, ofBits_count, Ideal.div_coe (by norm_num)]
  simp only [hx]
  rw [coe_total, ← EReal.coe_mul]
  rfl

/-- An element less its channel's mean. -/
theorem centred_apply (b : Fin 2) (c : Fin 96) (h w : Fin 384) :
    centred x (ix4 b c h w) = ((X b c h w - mean (X b c) : ℝ) : EReal) := by
  have e : centred x (ix4 b c h w) = x (ix4 b c h w) - spread (meanOf x) (ix4 b c h w) := by
    pointwise [centred]
  rw [e, spread_apply, meanOf_apply x X hx, hx, EReal.coe_sub]

/-- The variance of a channel's image. -/
theorem varOf_apply (b : Fin 2) (c : Fin 96) : varOf x (ix4 b c 0 0) = ((var (X b c) : ℝ) : EReal) := by
  have e : varOf x (ix4 b c 0 0)
      = Scalar.select (Ideal.cmp .ogt (varCount ix0) (Ideal.ofBits .f32 0x00000000#32))
        (Ideal.div (imageSum (mulf (F := Ideal) (φ := .f32) (centred x) (centred x)) (ix4 b c 0 0)) (varCount ix0))
        (chanConst 0x7FC00000#32 (ix4 b c 0 0)) := by
    pointwise [varOf]
  have hc : Ideal.cmp .ogt ((147456 : ℝ) : EReal) 0 = 1#1 := by
    simp [Ideal.cmp]
  rw [e, varCount_apply, ofBits_zero, hc, imageSum_apply, Ideal.div_coe (by norm_num)]
  have hm : ∀ h w, mulf (F := Ideal) (φ := .f32) (centred x) (centred x) (ix4 b c h w)
      = (((X b c h w - mean (X b c)) * (X b c h w - mean (X b c)) : ℝ) : EReal) := fun h w => by
    rw [EReal.coe_mul, ← centred_apply x X hx]
    rfl
  simp only [hm]
  rw [coe_total, ← EReal.coe_mul]
  rfl

/-- The normalised array, at an index. -/
theorem normed_apply (b : Fin 2) (c : Fin 96) (h w : Fin 384) :
    normed x (ix4 b c h w) = ((X b c h w - mean (X b c) : ℝ) : EReal) * ((scale (X b c) : ℝ) : EReal) := by
  have e : normed x (ix4 b c h w)
      = Ideal.div (centred x (ix4 b c h w)) (Ideal.sqrt (varOf x (ix4 b c 0 0) + chanConst 0x3727C5AC#32 (ix4 b c 0 0))) := by
    pointwise [normed, spread]
  rw [e, centred_apply x X hx, varOf_apply x X hx, chanConst_apply, ofBits_eps, ← EReal.coe_add, div_sqrt_var]

/-- The reference's result at an index, `k` being the pixel's class and the shift table being zero. -/
theorem result_apply (s : Vec Ideal S2x35x384x384 .f32) (g bt : Vec Ideal S35x96 .f32) (hb : ∀ i, bt i = (0 : EReal))
    (b : Fin 2) (c : Fin 96) (h w : Fin 384) (k : Fin 35) (hk : IsFirstMax (fun c => s (ix4 b c h w)) k) :
    result x s g bt (ix4 b c h w)
      = ((X b c h w - mean (X b c) : ℝ) : EReal) * ((scale (X b c) : ℝ) : EReal) * g (ix2 k c) := by
  have e : result x s g bt (ix4 b c h w) = normed x (ix4 b c h w) * lookupFirst g (classOf s) (ix4 b c h w)
      + lookupFirst bt (classOf s) (ix4 b c h w) := rfl
  rw [e, normed_apply x X hx, lookup_apply g _ b c h w k (classOf_apply s b h w k hk),
    lookup_apply bt _ b c h w k (classOf_apply s b h w k hk), hb, add_zero]

end Finite

end Cert.ReferenceIdeal.Hand

end
-- ==== Proof.Final.lean ====
/- What the kernel's output array holds at the end: block by block the reference's result. -/
module

public import proofs.«01_k».proof.Proof.KernelRead
public import proofs.«01_k».proof.Proof.RefNorm
public import Idealize.ShloMosaic.Lib.Pipeline.ValueKit

@[expose] public section

set_option maxRecDepth 16384

noncomputable section

namespace Cert.KernelIdeal.Hand

open Idealize.ShloMosaic Idealize.ShloMosaic.TcCoe Cert.KernelIdeal.Gen
open Idealize.ShloMosaic.Pipeline (Dat)
open Cert.ReferenceIdeal.Hand (IsFirstMax)
open Cert.Moments

variable (m : (ℓ : Loc nD τ sig) → Buf (Elt Ideal) ℓ) (c : Dev nD)

/-- The input array. -/
abbrev xArr : Vec Ideal S2x96x384x384 .f32 := m ((c : Thread nD τ).loc main_arg0)
/-- The class scores. -/
abbrev sArr : Vec Ideal S2x35x384x384 .f32 := m ((c : Thread nD τ).loc main_arg1)
/-- The scale table. -/
abbrev gArr : Vec Ideal S35x96 .f32 := m ((c : Thread nD τ).loc main_arg2)

/-- The block of the input at a point: its sample, and the band of its phase. -/
theorem idx_0 : ∀ t : Fin cfg0.N, win0_0.index t = ![t.val / 24, 0, min (t.val % 24) 11, 0] :=
  (by decide +kernel : ∀ t : Fin grid0.N, win0_0.index t = ![t.val / 24, 0, min (t.val % 24) 11, 0])
/-- The block of the scores at a point. -/
theorem idx_1 : ∀ t : Fin cfg0.N, win0_1.index t = ![t.val / 24, 0, min (t.val % 24) 11, 0] :=
  (by decide +kernel : ∀ t : Fin grid0.N, win0_1.index t = ![t.val / 24, 0, min (t.val % 24) 11, 0])
/-- The block of the table at a point. -/
theorem idx_2 : ∀ t : Fin cfg0.N, win0_2.index t = ![0, 0] :=
  (by decide +kernel : ∀ t : Fin grid0.N, win0_2.index t = ![0, 0])
/-- The block of the output at a normalising point. -/
theorem idx_3 : ∀ t : Fin cfg0.N, 12 ≤ t.val % 24 → win0_3.index t = ![t.val / 24, 0, t.val % 24 - 12, 0] :=
  (by decide +kernel : ∀ t : Fin grid0.N, 12 ≤ t.val % 24 → win0_3.index t = ![t.val / 24, 0, t.val % 24 - 12, 0])

/-- A block of the input, at an index. -/
theorem xBlk_apply (b : Fin 2) (k : Fin 12) (ch : Fin 96) (r : Fin 32) (w : Fin 384) :
    xBlk m c (24 * b.val + k.val) (ix4 0 ch r w) = xArr m c (ix4 b ch ⟨32 * k.val + r.val, by omega⟩ w) := by
  unfold xBlk xArr
  obtain ⟨t, ht⟩ : ∃ t, t = pt (24 * b.val + k.val) := ⟨_, rfl⟩
  have hv : t.val = 24 * b.val + k.val := by rw [ht]; show (24 * b.val + k.val) % 48 = _; omega
  rw [← ht]
  blk_ext! [iblk, V, idx_0 t, hv]

/-- A block of the class scores, at an index. -/
theorem segBlk_apply (b : Fin 2) (k : Fin 12) (ch : Fin 35) (r : Fin 32) (w : Fin 384) :
    segBlk m c (24 * b.val + k.val) (ix4 0 ch r w) = sArr m c (ix4 b ch ⟨32 * k.val + r.val, by omega⟩ w) := by
  unfold segBlk sArr
  obtain ⟨t, ht⟩ : ∃ t, t = pt (24 * b.val + k.val) := ⟨_, rfl⟩
  have hv : t.val = 24 * b.val + k.val := by rw [ht]; show (24 * b.val + k.val) % 48 = _; omega
  rw [← ht]
  blk_ext! [iblk, V, idx_1 t, hv]

/-- The block of the table is the scale table transposed. -/
theorem tblBlk_apply (n : ℕ) (ch : Fin 96) (k : Fin 35) :
    tblBlk m c n (ix2 ch k) = gArr m c (ix2 k ch) := by
  unfold tblBlk gArr
  blk_ext! [iblk, V, idx_2 (pt n)]

/-- The running sums are the sums of the blocks so far. -/
theorem sums_apply (b k : ℕ) (ch : Fin 96) :
    sums m c b k (ix3 ch 0 0)
      = ∑ j ∈ Finset.range (k + 1), ∑ r : Fin 32, ∑ w : Fin 384, xBlk m c (24 * b + j) (ix4 0 ch r w) := by
  induction k with
  | zero =>
    rw [Finset.sum_range_one, Nat.add_zero]
    exact pay5_apply _ ch
  | succ k ih =>
    rw [Finset.sum_range_succ, ← ih]
    exact pay7_apply _ _ ch

/-- The running sums of squares are the sums of the blocks' squares so far. -/
theorem squares_apply (b k : ℕ) (ch : Fin 96) :
    squares m c b k (ix3 ch 0 0)
      = ∑ j ∈ Finset.range (k + 1), ∑ r : Fin 32, ∑ w : Fin 384,
        xBlk m c (24 * b + j) (ix4 0 ch r w) * xBlk m c (24 * b + j) (ix4 0 ch r w) := by
  induction k with
  | zero =>
    rw [Finset.sum_range_one, Nat.add_zero]
    exact pay6_apply _ ch
  | succ k ih =>
    rw [Finset.sum_range_succ, ← ih]
    exact pay8_apply _ _ ch

section Finite
variable (X : Fin 2 → Fin 96 → Fin 384 → Fin 384 → ℝ)
  (hx : ∀ b ch h w, xArr m c (ix4 b ch h w) = ((X b ch h w : ℝ) : EReal))
include hx

/-- After its statistics points a sample's sums are the totals of its channels, -/
theorem sums_total (b : Fin 2) (ch : Fin 96) : sums m c b.val 11 (ix3 ch 0 0) = ((total (X b ch) : ℝ) : EReal) := by
  rw [sums_apply, Finset.sum_range, ← coe_total, sum_bands]
  refine Finset.sum_congr rfl fun k _ => Finset.sum_congr rfl fun r _ => Finset.sum_congr rfl fun w _ => ?_
  exact (xBlk_apply m c b k ch r w).trans (hx _ _ _ _)

/-- and its sums of squares the totals of the squares. -/
theorem squares_total (b : Fin 2) (ch : Fin 96) :
    squares m c b.val 11 (ix3 ch 0 0) = ((total (fun h w => X b ch h w * X b ch h w) : ℝ) : EReal) := by
  rw [squares_apply, Finset.sum_range, ← coe_total, sum_bands]
  refine Finset.sum_congr rfl fun k _ => Finset.sum_congr rfl fun r _ => Finset.sum_congr rfl fun w _ => ?_
  have e := (xBlk_apply m c b k ch r w).trans (hx _ _ _ _)
  rw [EReal.coe_mul]
  exact congrArg₂ (· * ·) e e

/-- A normalising point writes the reference's result at the pixels of its band. -/
theorem outBlk_apply [Cert.ReferenceIdeal.Facts] (bt : Vec Ideal S35x96 .f32) (hb : ∀ i, bt i = (0 : EReal))
    (b : Fin 2) (k : Fin 12) (ch : Fin 96) (r : Fin 32) (w : Fin 384) :
    outBlk m c (24 * b.val + 12 + k.val) (ix4 0 ch r w)
      = Cert.ReferenceIdeal.Hand.result (xArr m c) (sArr m c) (gArr m c) bt
        (ix4 b ch ⟨32 * k.val + r.val, by omega⟩ w) := by
  obtain ⟨q, hq⟩ := Cert.ReferenceIdeal.Hand.exists_firstMax
    (fun cl => sArr m c (ix4 b cl ⟨32 * k.val + r.val, by omega⟩ w))
  have e1 : 24 * b.val + 12 + k.val - 12 = 24 * b.val + k.val := by omega
  have e2 : (24 * b.val + 12 + k.val) / 24 = b.val := by omega
  have hseg : (fun cl => segBlk m c (24 * b.val + k.val) (ix4 0 cl r w))
      = fun cl => sArr m c (ix4 b cl ⟨32 * k.val + r.val, by omega⟩ w) := funext fun cl => segBlk_apply m c b k cl r w
  have hcl : ∀ (a : Fin 8) (p : Fin 1536), a.val * 1536 + p.val = r.val * 384 + w.val →
      k0_pay1 (k0_pay10 (segBlk m c (24 * b.val + k.val))) (ix3 0 a p) = BitVec.ofNat 32 q.val := fun a p h => by
    have e : k0_pay1 (k0_pay10 (segBlk m c (24 * b.val + k.val))) (ix3 0 a p)
        = k0_pay10 (segBlk m c (24 * b.val + k.val)) (ix3 0 a p) := by
      generalize k0_pay10 (segBlk m c (24 * b.val + k.val)) = v
      pointwise [k0_pay1]
    rw [e, pay10_apply _ r w a p h, hseg]
    exact leastClass_eq _ q hq
  unfold outBlk
  rw [e1, e2, pay11_apply _ _ _ _ _ ch r w q (X b ch) hcl (sums_total m c X hx b ch) (squares_total m c X hx b ch),
    pay9_apply, xBlk_apply, tblBlk_apply, hx, Cert.ReferenceIdeal.Hand.result_apply _ X hx _ _ _ hb _ _ _ _ q hq,
    mul_assoc, EReal.coe_sub]

/-- The same at any index of the block. -/
theorem outBlk_block [Cert.ReferenceIdeal.Facts] (bt : Vec Ideal S35x96 .f32) (hb : ∀ i, bt i = (0 : EReal))
    (n : ℕ) (h : n < 48) (h12 : 12 ≤ n % 24) (y : S1x96x32x384.Idx) (i : S2x96x384x384.Idx)
    (h0 : (i 0).val = n / 24) (h1 : (i 1).val = (y 1).val) (h2 : (i 2).val = 32 * (n % 24 - 12) + (y 2).val)
    (h3 : (i 3).val = (y 3).val) :
    outBlk m c n y = Cert.ReferenceIdeal.Hand.result (xArr m c) (sArr m c) (gArr m c) bt i := by
  have hy0 : (y 0).val < 1 := (y 0).isLt
  have e := outBlk_apply m c X hx bt hb ⟨n / 24, by omega⟩ ⟨n % 24 - 12, by omega⟩ (y 1) (y 2) (y 3)
  rw [show 24 * (⟨n / 24, by omega⟩ : Fin 2).val + 12 + (⟨n % 24 - 12, by omega⟩ : Fin 12).val = n by
    show 24 * (n / 24) + 12 + (n % 24 - 12) = n; omega] at e
  have ey : (ix4 0 (y 1) (y 2) (y 3) : S1x96x32x384.Idx) = y := by
    refine Eq.trans ?_ (eq_ix4 y).symm
    congr 1
    exact Fin.ext (by show 0 = (y 0).val; omega)
  rw [ey] at e
  refine e.trans (congrArg _ ?_)
  refine Eq.trans ?_ (eq_ix4 i).symm
  congr 1
  · exact Fin.ext h0.symm
  · exact Fin.ext h1.symm
  · exact Fin.ext h2.symm
  · exact Fin.ext h3.symm

omit hx in
/-- The blocks written back fill the output array. -/
theorem covers_3 : (cfg0.win 3).Covers := by decide +kernel

/-- The output array ends holding the reference's result. -/
theorem final [Cert.ReferenceIdeal.Facts] (bt : Vec Ideal S35x96 .f32) (hb : ∀ i, bt i = (0 : EReal)) :
    (dats m 0 c).arrAt 3 cfg0.N = Cert.ReferenceIdeal.Hand.result (xArr m c) (sArr m c) (gArr m c) bt := by
  refine (dats m 0 c).arrAt_eq_of_covers 3 _ covers_3 fun t hf y => ?_
  have h12 : 12 ≤ t.val % 24 := by
    by_contra h
    rw [flush3_phase1 t (by omega)] at hf
    exact absurd hf (by decide)
  have hN : t.val < 48 := lt_of_lt_of_eq t.isLt (show cfg0.N = 48 from N_0)
  blk_simp
  rw [after_3]
  refine outBlk_block m c X hx bt hb t.val hN h12 y _ ?_ ?_ ?_ ?_
  all_goals blk_simp [idx_3 t h12]
  omega

end Finite

end Cert.KernelIdeal.Hand

end
-- ==== Proof.PreRead.lean ====
/- The precondition read at an index: the input array is finite and the shift table is zero. -/
module

public import proofs.«01_k».proof.Pre_finite_and_unbiased
public import proofs.«01_k».proof.Proof.Moments
public import Idealize.ShloMosaic.Lib.ReduceAll
public import Idealize.ShloMosaic.Lib.Pointwise
public import Idealize.ShloMosaic.Lib.Decide

@[expose] public section

set_option maxRecDepth 16384

noncomputable section

namespace Cert.Pre_finite_and_unbiased.Hand

open Idealize.ShloMosaic Cert.Pre_finite_and_unbiased Facts

/-- The side conditions of the precondition's operations. -/
instance facts : Facts where
  bcast_S_S2x96x384x384 := by decide
  reducesTo_S2x96x384x384_S_d0_1_2_3 := by decide +kernel
  h_S_ := by decide
  bcast_S_S35x96 := by decide
  reducesTo_S35x96_S_d0_1 := by decide +kernel

/-- The precondition says that the input array is finite and that the shift table is zero. -/
theorem read [Facts] (x : FVec Ideal S2x96x384x384 .f32) (s : FVec Ideal S2x35x384x384 .f32) (g bt : FVec Ideal S35x96 .f32)
    (h : fn (F := Ideal) x s g bt = fun _ => 1#1) :
    (∀ i, x i ≠ ⊤ ∧ x i ≠ ⊥) ∧ ∀ i, bt i = (0 : EReal) := by
  have h0 := congrFun h (Shape.Idx.first h_S_)
  dsimp only [fn] at h0
  have h1 : ∀ a b : BitVec 1, IntOp.andi a b = 1#1 → a = 1#1 ∧ b = 1#1 := by decide
  obtain ⟨hx, hb⟩ := h1 _ _ h0
  constructor
  · intro i
    have e := Host.reduce_andi_all _ _ _ _ _ hx i
    obtain ⟨e1, e2⟩ := h1 _ _ e
    change Ideal.cmp .olt (x i) (Ideal.ofBits .f32 0x7F800000#32) = 1#1 at e1
    change Ideal.cmp .ogt (x i) (Ideal.ofBits .f32 0xFF800000#32) = 1#1 at e2
    have t1 : Ideal.ofBits .f32 0x7F800000#32 = (⊤ : EReal) := by simp [Ideal.ofBits, Ideal.ieee]
    have t2 : Ideal.ofBits .f32 0xFF800000#32 = (⊥ : EReal) := by simp [Ideal.ofBits, Ideal.ieee]
    rw [t1] at e1
    rw [t2] at e2
    constructor
    · intro hi
      rw [hi] at e1
      simp [Ideal.cmp] at e1
    · intro hi
      rw [hi] at e2
      simp [Ideal.cmp] at e2
  · intro i
    have e := Host.reduce_andi_all _ _ _ _ _ hb i
    change Ideal.cmp .oeq (bt i) (Ideal.ofBits .f32 0x00000000#32) = 1#1 at e
    rw [Cert.Moments.ofBits_zero] at e
    by_contra hi
    simp [Ideal.cmp, hi] at e

end Cert.Pre_finite_and_unbiased.Hand

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.WordFrame
public import proofs.«01_k».proof.Proof.Final
public import proofs.«01_k».proof.Proof.RefTerm
public import proofs.«01_k».proof.Proof.PreRead
public import Idealize.ShloMosaic.Adequacy
public import Idealize.ShloMosaic.Init

@[expose] public section

noncomputable section

namespace Cert.Proof

open Idealize.ShloMosaic Idealize.ShloMosaic.TcCoe Idealize.SL.Sem

/-- The named constant is the reciprocal of the number of pixels of an image, rounded to its word at `Bits`. -/
theorem preserves : Cert.preserves_Kernel_KernelIdeal :=
  IdealRules.named_const.statement Cert.KernelIdeal.κ "inv_n" .f32 0x36E38E39#32 _ rfl

/-- The kernel's run: its result array ends at the reference's function of its arguments, which it leaves unchanged. -/
theorem kernel_run (m : (ℓ : Loc Cert.KernelIdeal.nD Cert.KernelIdeal.τ Cert.KernelIdeal.sig) → Buf (Elt Ideal) ℓ)
    (g : Dev Cert.KernelIdeal.nD → PrngReg) (hpre : Cert.Pre_KernelIdeal_finite_and_unbiased m) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v1)
          = Cert.ReferenceIdeal.Hand.result (Cert.KernelIdeal.Hand.xArr m c) (Cert.KernelIdeal.Hand.sArr m c)
            (Cert.KernelIdeal.Hand.gArr m c)
            (m ((c.tc : Thread Cert.KernelIdeal.nD Cert.KernelIdeal.τ).loc Cert.KernelIdeal.main_arg3))) := by
  refine (θ_run Cert.KernelIdeal.defs _ _).mono (fun r h c => ?_) (Cert.KernelIdeal.Hand.run_main m g)
  obtain ⟨hx, hb⟩ := Cert.Pre_finite_and_unbiased.Hand.read _ _ _ _ (hpre c)
  exact ((h.1 c).1 3).trans (Cert.KernelIdeal.Hand.final m c
    (fun b ch h w => (Cert.KernelIdeal.Hand.xArr m c (ix4 b ch h w)).toReal)
    (fun b ch h w => (EReal.coe_toReal (hx _).1 (hx _).2).symm) _ hb)

/-- The kernel and the reference compute the same function over the extended reals. -/
theorem algebraic : Cert.algebraic_KernelIdeal_ReferenceIdeal_pre_finite_and_unbiased := by
  intro m g m' g' hpre hagree
  refine ⟨fun c => Cert.ReferenceIdeal.Hand.result (Cert.KernelIdeal.Hand.xArr m c) (Cert.KernelIdeal.Hand.sArr m c)
    (Cert.KernelIdeal.Hand.gArr m c)
    (m ((c.tc : Thread Cert.KernelIdeal.nD Cert.KernelIdeal.τ).loc Cert.KernelIdeal.main_arg3)), ?_, ?_⟩
  · exact (θ_run Cert.KernelIdeal.defs _ _).mono (fun r h c => ⟨h.1 c, h.2.1 c⟩)
      (θ_run_and (kernel_run m g hpre) (Cert.KernelIdeal.Hand.frame m g))
  · refine (θ_run Cert.ReferenceIdeal.defs _ _).mono (fun r h c => ⟨(h c).1.trans ?_, (h c).2⟩)
      (Cert.ReferenceIdeal.Hand.run m' g')
    obtain ⟨h0, h1, h2, h3⟩ := hagree c
    rw [h0, h1, h2, h3]

/-- Every claim of the certificate. -/
theorem claim : Cert.Claim :=
  ⟨Cert.Kernel.Gen.facts, Cert.KernelIdeal.Gen.facts, Cert.ReferenceIdeal.Gen.facts, Cert.Pre_finite_and_unbiased.Hand.facts,
    Cert.Kernel.Hand.frame, fun m ρ _ => Cert.KernelIdeal.Hand.frame m ρ,
    fun m ρ _ => Cert.KernelIdeal.Hand.frame m ρ, fun m g _ => Cert.ReferenceIdeal.Hand.frame m g,
    fun m g _ => Cert.ReferenceIdeal.Hand.frame m g, preserves, algebraic⟩

end Cert.Proof

end
